-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S2x1024x7168 : Shape := ⟨3, ![2, 1024, 7168]⟩
abbrev S7168 : Shape := ⟨1, ![7168]⟩
abbrev S7168x384 : Shape := ⟨2, ![7168, 384]⟩
abbrev S2x1024x8 : Shape := ⟨3, ![2, 1024, 8]⟩
abbrev S_ : Shape := ⟨0, ![]⟩

class Facts : Prop where
  bitsLt_bf16_f32 : FTy.bits .bf16 < FTy.bits .f32
  bcast_S_S7168x384 : S_.BroadcastsInDim S7168x384 (![] : Fin 0 → Fin S7168x384.rank)

variable [Facts]

def fn {F : FTy → Type} [FloatOps F] (main_arg0 : FVec F S2x1024x7168 .bf16) (main_arg1 : FVec F S7168 .f32) (main_arg2 : FVec F S7168x384 .bf16) (main_arg3 : IVec S2x1024x8 32) : IVec S7168x384 1 :=
  let main_v0 : FVec F S7168x384 .f32 := (extf .f32 · bitsLt_bf16_f32) main_arg2
  let main_v1 : FVec F S7168x384 .f32 := Host.absf main_v0
  let main_cst : FVec F S_ .f32 := constant S_ .f32 0x7F800000#32
  let main_v2 : FVec F S7168x384 .f32 := broadcastInDim S7168x384 ![] bcast_S_S7168x384 main_cst
  let main_v3 : IVec S7168x384 1 := cmpf .olt main_v1 main_v2
  main_v3
-- ==== Kernel.lean ====
abbrev S2x1024x7168 : Shape := ⟨3, ![2, 1024, 7168]⟩
abbrev S7168 : Shape := ⟨1, ![7168]⟩
abbrev S7168x384 : Shape := ⟨2, ![7168, 384]⟩
abbrev S2x1024x8 : Shape := ⟨3, ![2, 1024, 8]⟩
abbrev S2048x8 : Shape := ⟨2, ![2048, 8]⟩
abbrev S2048x7168 : Shape := ⟨2, ![2048, 7168]⟩
abbrev S1x7168 : Shape := ⟨2, ![1, 7168]⟩
abbrev S8x1x256 : Shape := ⟨3, ![8, 1, 256]⟩
abbrev S1x384 : Shape := ⟨2, ![1, 384]⟩
abbrev S2048x384 : Shape := ⟨2, ![2048, 384]⟩
abbrev S256x7168 : Shape := ⟨2, ![256, 7168]⟩
abbrev S1x1x256 : Shape := ⟨3, ![1, 1, 256]⟩
abbrev S256x384 : Shape := ⟨2, ![256, 384]⟩
abbrev S256x128 : Shape := ⟨2, ![256, 128]⟩
abbrev S64x8 : Shape := ⟨2, ![64, 8]⟩
abbrev S64x384 : Shape := ⟨2, ![64, 384]⟩
abbrev S64x1 : Shape := ⟨2, ![64, 1]⟩
abbrev S384 : Shape := ⟨1, ![384]⟩
abbrev S32x7168 : Shape := ⟨2, ![32, 7168]⟩
abbrev S32 : Shape := ⟨1, ![32]⟩
abbrev S32x1 : Shape := ⟨2, ![32, 1]⟩
abbrev S32x246 : Shape := ⟨2, ![32, 246]⟩
abbrev S32x128 : Shape := ⟨2, ![32, 128]⟩
abbrev S256x1 : Shape := ⟨2, ![256, 1]⟩
abbrev S256 : Shape := ⟨1, ![256]⟩
abbrev S128x256 : Shape := ⟨2, ![128, 256]⟩
abbrev S1x256 : Shape := ⟨2, ![1, 256]⟩

abbrev nBuf : Space → Nat
  | .hbm => 14
  | .vmem => 20
  | .smem => 0
  | _ => 0

abbrev bufTy : (tb : Table) → Fin (tcTables nBuf tb) → BufTy
  | .hbm, ⟨0, _⟩ => ⟨S2x1024x7168, .bf16⟩
  | .hbm, ⟨1, _⟩ => ⟨S7168, .f32⟩
  | .hbm, ⟨2, _⟩ => ⟨S7168x384, .bf16⟩
  | .hbm, ⟨3, _⟩ => ⟨S2x1024x8, .i32⟩
  | .hbm, ⟨4, _⟩ => ⟨S2048x8, .i32⟩
  | .hbm, ⟨5, _⟩ => ⟨S2048x7168, .bf16⟩
  | .hbm, ⟨6, _⟩ => ⟨S1x7168, .f32⟩
  | .hbm, ⟨7, _⟩ => ⟨S8x1x256, .f32⟩
  | .hbm, ⟨8, _⟩ => ⟨S8x1x256, .f32⟩
  | .hbm, ⟨9, _⟩ => ⟨S1x384, .f32⟩
  | .hbm, ⟨10, _⟩ => ⟨S8x1x256, .f32⟩
  | .hbm, ⟨11, _⟩ => ⟨S2048x384, .f32⟩
  | .hbm, ⟨12, _⟩ => ⟨S2048x7168, .fp8e4m3⟩
  | .hbm, ⟨13, _⟩ => ⟨S8x1x256, .f32⟩
  | .local _ .vmem, ⟨0, _⟩ => ⟨S2048x8, .i32⟩
  | .local _ .vmem, ⟨1, _⟩ => ⟨S256x7168, .bf16⟩
  | .local _ .vmem, ⟨2, _⟩ => ⟨S256x7168, .bf16⟩
  | .local _ .vmem, ⟨3, _⟩ => ⟨S1x7168, .f32⟩
  | .local _ .vmem, ⟨4, _⟩ => ⟨S7168x384, .bf16⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x384, .f32⟩
  | .local _ .vmem, ⟨10, _⟩ => ⟨S1x1x256, .f32⟩
  | .local _ .vmem, ⟨11, _⟩ => ⟨S1x1x256, .f32⟩
  | .local _ .vmem, ⟨12, _⟩ => ⟨S256x384, .f32⟩
  | .local _ .vmem, ⟨13, _⟩ => ⟨S256x384, .f32⟩
  | .local _ .vmem, ⟨14, _⟩ => ⟨S256x7168, .fp8e4m3⟩
  | .local _ .vmem, ⟨15, _⟩ => ⟨S256x7168, .fp8e4m3⟩
  | .local _ .vmem, ⟨16, _⟩ => ⟨S1x1x256, .f32⟩
  | .local _ .vmem, ⟨17, _⟩ => ⟨S1x1x256, .f32⟩
  | .local _ .vmem, ⟨18, _⟩ => ⟨S1x384, .f32⟩
  | .local _ .vmem, ⟨19, _⟩ => ⟨S256x128, .f32⟩
  | _, _ => ⟨S2x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_38 : BitVec 32 := 0#32
  let c32_i32 : BitVec 32 := 32#32
  let v80 : BitVec 32 := Scalar.addi c0_i32_38 c32_i32
  let c1_i32_39 : BitVec 32 := 1#32
  ⟨c0_i32_38, v80, c1_i32_39⟩
def k0_mult1 (k0_t1 : Fin k0_t1_loop.trips) : BitVec 32 :=
  let c0_i32_38 : BitVec 32 := 0#32
  let c1_i32_39 : BitVec 32 := 1#32
  let arg14 : BitVec 32 := Scf.iv c0_i32_38 c1_i32_39 k0_t1
  let c64_i32 : BitVec 32 := 64#32
  let v89 : BitVec 32 := Scalar.muli arg14 c64_i32
  v89
def k0_off1 (k0_t1 : Fin k0_t1_loop.trips) : Fin 2 → Nat :=
  let c0_i32_38 : BitVec 32 := 0#32
  let c1_i32_39 : BitVec 32 := 1#32
  let arg14 : BitVec 32 := Scf.iv c0_i32_38 c1_i32_39 k0_t1
  let c64_i32 : BitVec 32 := 64#32
  let v89 : BitVec 32 := Scalar.muli arg14 c64_i32
  let v90 : BitVec 32 := v89
  let v91 : Index := Scalar.indexCast v90
  let c0_47 : Index := 0#32
  ![v91.toNat, 0]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg14 : BitVec 32 := Scf.iv c0_i32_1 c1_i32 k0_t2
  let c32_i32 : BitVec 32 := 32#32
  let v79 : BitVec 32 := Scalar.muli arg14 c32_i32
  v79
def k0_off2 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v79 : BitVec 32 := Scalar.muli arg14 c32_i32
  let v80 : BitVec 32 := v79
  let v81 : Index := Scalar.indexCast v80
  let c0_37 : Index := 0#32
  ![v81.toNat, 0]
def k0_off3 (k0_t2 : Fin k0_t2_loop.trips) : Fin 2 → Nat :=
  let c0_i32_1 : BitVec 32 := 0#32
  let c1_i32 : BitVec 32 := 1#32
  let arg14 : BitVec 32 := Scf.iv c0_i32_1 c1_i32 k0_t2
  let c32_i32 : BitVec 32 := 32#32
  let v79 : BitVec 32 := Scalar.muli arg14 c32_i32
  let v80 : BitVec 32 := v79
  let v155 : Index := Scalar.indexCast v80
  let c0_59 : Index := 0#32
  ![v155.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7168x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x7168 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x1024x7168 : Shape := ⟨3, ![2, 1024, 7168]⟩
abbrev S7168 : Shape := ⟨1, ![7168]⟩
abbrev S7168x384 : Shape := ⟨2, ![7168, 384]⟩
abbrev S2x1024x8 : Shape := ⟨3, ![2, 1024, 8]⟩
abbrev S2048x7168 : Shape := ⟨2, ![2048, 7168]⟩
abbrev S1x7168 : Shape := ⟨2, ![1, 7168]⟩
abbrev S16384x1 : Shape := ⟨2, ![16384, 1]⟩
abbrev S8x1x256 : Shape := ⟨3, ![8, 1, 256]⟩
abbrev S1x384 : Shape := ⟨2, ![1, 384]⟩
abbrev S2048x384 : Shape := ⟨2, ![2048, 384]⟩
abbrev S2048 : Shape := ⟨1, ![2048]⟩
abbrev S2048x1 : Shape := ⟨2, ![2048, 1]⟩
abbrev S2048x246 : Shape := ⟨2, ![2048, 246]⟩
abbrev S16384x384 : Shape := ⟨2, ![16384, 384]⟩
abbrev S384 : Shape := ⟨1, ![384]⟩

abbrev nBuf : Space → Nat
  | .hbm => 14
  | .vmem => 11
  | .smem => 0
  | _ => 0

abbrev bufTy : (tb : Table) → Fin (tcTables nBuf tb) → BufTy
  | .hbm, ⟨0, _⟩ => ⟨S2x1024x7168, .bf16⟩
  | .hbm, ⟨1, _⟩ => ⟨S7168, .f32⟩
  | .hbm, ⟨2, _⟩ => ⟨S7168x384, .bf16⟩
  | .hbm, ⟨3, _⟩ => ⟨S2x1024x8, .i32⟩
  | .hbm, ⟨4, _⟩ => ⟨S2048x7168, .bf16⟩
  | .hbm, ⟨5, _⟩ => ⟨S1x7168, .f32⟩
  | .hbm, ⟨6, _⟩ => ⟨S16384x1, .i32⟩
  | .hbm, ⟨7, _⟩ => ⟨S8x1x256, .f32⟩
  | .hbm, ⟨8, _⟩ => ⟨S8x1x256, .f32⟩
  | .hbm, ⟨9, _⟩ => ⟨S1x384, .f32⟩
  | .hbm, ⟨10, _⟩ => ⟨S8x1x256, .f32⟩
  | .hbm, ⟨11, _⟩ => ⟨S2048x384, .f32⟩
  | .hbm, ⟨12, _⟩ => ⟨S2048x7168, .fp8e4m3⟩
  | .hbm, ⟨13, _⟩ => ⟨S8x1x256, .f32⟩
  | .local _ .vmem, ⟨0, _⟩ => ⟨S2048x7168, .bf16⟩
  | .local _ .vmem, ⟨1, _⟩ => ⟨S1x7168, .f32⟩
  | .local _ .vmem, ⟨2, _⟩ => ⟨S7168x384, .bf16⟩
  | .local _ .vmem, ⟨3, _⟩ => ⟨S16384x1, .i32⟩
  | .local _ .vmem, ⟨4, _⟩ => ⟨S8x1x256, .f32⟩
  | .local _ .vmem, ⟨5, _⟩ => ⟨S8x1x256, .f32⟩
  | .local _ .vmem, ⟨6, _⟩ => ⟨S1x384, .f32⟩
  | .local _ .vmem, ⟨7, _⟩ => ⟨S8x1x256, .f32⟩
  | .local _ .vmem, ⟨8, _⟩ => ⟨S2048x384, .f32⟩
  | .local _ .vmem, ⟨9, _⟩ => ⟨S2048x7168, .fp8e4m3⟩
  | .local _ .vmem, ⟨10, _⟩ => ⟨S8x1x256, .f32⟩
  | _, _ => ⟨S2x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Exponent.lean ====
/- The power-of-two scale exponent of the quantiser over the extended reals: one definition, and the two ways of
   computing it (a count of thresholds read back as a biased exponent word; a minimum over the candidate exponents)
   shown to give it. -/
module

public import Idealize.ShloMosaic.PureOps.Ideal

@[expose] public section

noncomputable section

namespace Cert.Spec

open Idealize.ShloMosaic

/-- The power `2 ^ z` as an extended real. -/
def tp (z : ℤ) : EReal := (((2 : ℝ) ^ z : ℝ) : EReal)

/-- Powers of two are ordered as their exponents are. -/
theorem tp_le {a b : ℤ} : tp a ≤ tp b ↔ a ≤ b := by
  unfold tp
  rw [EReal.coe_le_coe_iff]
  exact zpow_le_zpow_iff_right₀ (by norm_num)

/-- Powers of two are strictly ordered as their exponents are. -/
theorem tp_lt {a b : ℤ} : tp a < tp b ↔ a < b := by
  rw [← not_le, ← not_le, tp_le]

/-- How many of the thresholds `2 ^ -126, …, 2 ^ 119` are at most `y`. -/
def cnt (y : EReal) : ℕ := (Finset.univ.filter fun k : Fin 246 => tp ((k.val : ℤ) - 126) ≤ y).card

/-- The scale exponent of `y`: zero below the normal range and at infinity, otherwise the exponent of the least power
    of two above `y`, at most 120. -/
def ex (y : EReal) : ℤ := if cnt y = 0 ∨ y = ⊤ then 0 else (cnt y : ℤ) - 126

theorem cnt_le (y : EReal) : cnt y ≤ 246 := by
  unfold cnt
  exact (Finset.card_filter_le _ _).trans (by simp)

theorem cnt_zero : cnt 0 = 0 := by
  unfold cnt
  rw [Finset.card_eq_zero, Finset.filter_eq_empty_iff]
  intro k _ h
  have : (0 : EReal) < tp ((k.val : ℤ) - 126) := by
    unfold tp; exact_mod_cast (zpow_pos (by norm_num : (0:ℝ) < 2) _)
  exact absurd h (not_le.mpr this)

/-- The exponent lies in `[-125, 120]`. -/
theorem ex_bounds (y : EReal) : -125 ≤ ex y ∧ ex y ≤ 120 := by
  unfold ex
  have := cnt_le y
  split_ifs with h
  · omega
  · rw [not_or] at h
    omega

/-- A downward closed set of positions is the initial segment of its own length. -/
theorem lt_card_filter {N : ℕ} (p : Fin N → Prop) [DecidablePred p] (hp : ∀ a b : Fin N, a ≤ b → p b → p a) (k : Fin N) :
    k.val < (Finset.univ.filter p).card ↔ p k := by
  constructor
  · intro h
    by_contra hk
    have : (Finset.univ.filter p) ⊆ (Finset.univ.filter fun a : Fin N => a < k) := by
      intro a ha
      simp only [Finset.mem_filter, Finset.mem_univ, true_and] at ha ⊢
      by_contra hlt
      exact hk (hp k a (not_lt.mp hlt) ha)
    have h2 := Finset.card_le_card this
    have h3 : (Finset.univ.filter fun a : Fin N => a < k).card = k.val := by
      rw [show (Finset.univ.filter fun a : Fin N => a < k) = Finset.Iio k from by ext a; simp, Fin.card_Iio]
    omega
  · intro hk
    have : (Finset.univ.filter fun a : Fin N => a ≤ k) ⊆ (Finset.univ.filter p) := by
      intro a ha
      simp only [Finset.mem_filter, Finset.mem_univ, true_and] at ha ⊢
      exact hp a k ha hk
    have h2 := Finset.card_le_card this
    have h3 : (Finset.univ.filter fun a : Fin N => a ≤ k).card = k.val + 1 := by
      rw [show (Finset.univ.filter fun a : Fin N => a ≤ k) = Finset.Iic k from by ext a; simp, Fin.card_Iic]
    omega

/-- Position `k` is counted exactly when its threshold is at most `y`. -/
theorem lt_cnt (y : EReal) (k : Fin 246) : k.val < cnt y ↔ tp ((k.val : ℤ) - 126) ≤ y := by
  unfold cnt
  refine lt_card_filter (fun k : Fin 246 => tp ((k.val : ℤ) - 126) ≤ y) ?_ k
  intro a b hab hb
  refine le_trans (tp_le.mpr ?_) hb
  have : a.val ≤ b.val := hab
  omega

/-! ### Words of powers of two -/

/-- A 32-bit float word with sign clear, exponent field `e` strictly between 0 and 255 and fraction zero denotes
    `2 ^ (e - 127)`. -/
theorem ieee_of_fields (b : BitVec 32) (e : ℕ) (hs : b.extractLsb' 31 1 = 0#1) (he : (b.extractLsb' 23 8).toNat = e)
    (hf : (b.extractLsb' 0 23).toNat = 0) (h0 : e ≠ 0) (h1 : e ≠ 255) : Ideal.ieee 8 23 b = tp ((e : ℤ) - 127) := by
  have hx : (2 ^ 8 - 1 : ℕ) = 255 := by norm_num
  unfold Ideal.ieee
  simp only [Nat.reduceAdd, hs, he, hf, hx, if_neg h0, if_neg h1]
  unfold tp
  congr 1
  norm_num
  rw [show ((8388608 : ℝ)) = (2:ℝ) ^ (23 : ℤ) by norm_num, ← zpow_add₀ (by norm_num : (2:ℝ) ≠ 0)]
  congr 1
  omega

/-- The 32-bit word of a positive biased exponent field denotes the power of two it stands for. -/
theorem ofBits_field (f : Fin 255) (h0 : 0 < f.val) : Ideal.ofBits .f32 (BitVec.ofNat 32 f.val <<< 23) = tp ((f.val : ℤ) - 127) := by
  have h1 : ∀ f : Fin 255, (BitVec.ofNat 32 f.val <<< 23).extractLsb' 31 1 = 0#1
      ∧ ((BitVec.ofNat 32 f.val <<< 23).extractLsb' 23 8).toNat = f.val
      ∧ ((BitVec.ofNat 32 f.val <<< 23).extractLsb' 0 23).toNat = 0 := by decide +kernel
  obtain ⟨hs, he, hf⟩ := h1 f
  exact ieee_of_fields _ _ hs he hf h0.ne' (ne_of_lt f.isLt)

/-- The word of +infinity. -/
theorem ofBits_top : Ideal.ofBits .f32 0x7F800000#32 = ⊤ := by simp [Ideal.ofBits, Ideal.ieee]

/-- The word of -infinity. -/
theorem ofBits_bot : Ideal.ofBits .f32 0xFF800000#32 = ⊥ := by simp [Ideal.ofBits, Ideal.ieee]

/-- The word of the least positive normal number. -/
theorem ofBits_tiny : Ideal.ofBits .f32 0x00800000#32 = tp (-126) := by
  have h := ieee_of_fields 0x00800000#32 1 (by decide) (by decide) (by decide) (by norm_num) (by norm_num)
  have h2 : (((1 : ℕ) : ℤ) - 127) = -126 := by norm_num
  rw [h2] at h
  exact h

/-- The word of 120. -/
theorem ofBits_120 : Ideal.ofBits .f32 0x42F00000#32 = ((120 : ℝ) : EReal) := by
  simp [Ideal.ofBits, Ideal.ieee, -EReal.coe_mul]; norm_num

/-- The word of 448. -/
theorem ofBits_448 : Ideal.ofBits .f32 0x43E00000#32 = ((448 : ℝ) : EReal) := by
  simp [Ideal.ofBits, Ideal.ieee, -EReal.coe_mul]; norm_num

/-- The word of -448. -/
theorem ofBits_neg448 : Ideal.ofBits .f32 0xC3E00000#32 = ((-448 : ℝ) : EReal) := by
  simp [Ideal.ofBits, Ideal.ieee, -EReal.coe_mul]; norm_num

/-- The word of 2048. -/
theorem ofBits_2048 : Ideal.ofBits .f32 0x45000000#32 = ((2048 : ℝ) : EReal) := by
  simp [Ideal.ofBits, Ideal.ieee, -EReal.coe_mul]; norm_num

/-! ### The exponent by counting thresholds -/

/-- The word the count of thresholds gives: 255 at infinity, the count otherwise. -/
def field (y : EReal) : BitVec 32 := if y = ⊤ then 255#32 else BitVec.ofNat 32 (cnt y)

/-- A threshold's word, formed from its position, denotes the threshold. -/
theorem threshold_word (k : Fin 246) :
    Ideal.ofBits .f32 (IntOp.shli ArithUnit.vector (IntOp.addi (IntOp.subi (BitVec.ofNat 32 k.val) 126#32) 127#32) 23#32)
      = tp ((k.val : ℤ) - 126) := by
  have h : ∀ k : Fin 246, IntOp.shli ArithUnit.vector (IntOp.addi (IntOp.subi (BitVec.ofNat 32 k.val) 126#32) 127#32) 23#32
      = BitVec.ofNat 32 (k.val + 1) <<< 23 := by decide +kernel
  rw [h k]
  have := ofBits_field ⟨k.val + 1, by omega⟩ (by simp)
  rw [this]
  congr 1
  push_cast
  omega

/-- A natural number converted to an integer word, below 2 ^ 31. -/
theorem fptosi_nat (n : ℕ) (h : n ≤ 246) : Ideal.fptosi 32 ((n : ℝ) : EReal) = BitVec.ofNat 32 n := by
  unfold Ideal.fptosi
  have : Ideal.toIntClamped (-(2 ^ (32 - 1) : Nat)) ((2 ^ (32 - 1) : Nat) - 1) ((n : ℝ) : EReal) = (n : ℤ) := by
    show max _ (min _ (if (0:ℝ) ≤ (n:ℝ) then ⌊(n:ℝ)⌋ else ⌈(n:ℝ)⌉)) = _
    rw [if_pos (by positivity), Int.floor_natCast]
    norm_num
    omega
  rw [this, BitVec.ofInt_natCast]

/-- A one-bit comparison result, widened and converted, is the indicator. -/
theorem sitofp_bool (p : Prop) [Decidable p] :
    (FloatOps.sitofp (F := Ideal) FTy.f32 (BitVec.setWidth 32 (BitVec.ofBool (decide p))) : EReal) = if p then 1 else 0 := by
  show (((BitVec.setWidth 32 (BitVec.ofBool (decide p))).toInt : ℝ) : EReal) = _
  by_cases h : p
  · rw [if_pos h, decide_eq_true h, show (BitVec.setWidth 32 (BitVec.ofBool true)).toInt = 1 from by decide]; simp
  · rw [if_neg h, decide_eq_false h, show (BitVec.setWidth 32 (BitVec.ofBool false)).toInt = 0 from by decide]; simp

/-- A sum of indicators is the number of positions that satisfy the condition. -/
theorem sum_indicator {ι : Type} [Fintype ι] (p : ι → Prop) [DecidablePred p] :
    (∑ k, (if p k then (1 : EReal) else 0)) = (((Finset.univ.filter p).card : ℝ) : EReal) := by
  rw [← Finset.sum_filter, Finset.sum_const, EReal.nsmul_eq_mul, mul_one]
  norm_cast

/-- The exponent field as the kernel forms it is `field`. -/
theorem field_word (y : EReal) :
    (if y = ⊤ then 255#32 else FloatOps.fptosi (F := Ideal) (φ := .f32) 32 (∑ k : Fin 246, (FloatOps.sitofp (F := Ideal) FTy.f32
      (BitVec.setWidth 32 (BitVec.ofBool (decide (Ideal.ofBits .f32 (IntOp.shli ArithUnit.vector
        (IntOp.addi (IntOp.subi (BitVec.ofNat 32 k.val) 126#32) 127#32) 23#32) ≤ y)))) : EReal))) = field y := by
  unfold field
  by_cases h : y = ⊤
  · rw [if_pos h, if_pos h]
  · rw [if_neg h, if_neg h]
    simp only [sitofp_bool, threshold_word]
    rw [sum_indicator]
    exact fptosi_nat _ (cnt_le y)

/-- The exponent word the kernel selects from the field. -/
def expWord (n : BitVec 32) : BitVec 32 :=
  Scalar.select (IntOp.ori (IntOp.cmpi CmpIPredicate.eq n 0#32) (IntOp.cmpi CmpIPredicate.eq n 255#32)) (0#32) (IntOp.subi n 126#32)

/-- A field is a natural number: at most 246, or 255. -/
theorem field_eq (y : EReal) : ∃ n : Fin 256, (n.val ≤ 246 ∨ n.val = 255) ∧ field y = BitVec.ofNat 32 n.val
    ∧ ex y = if n.val = 0 ∨ n.val = 255 then 0 else (n.val : ℤ) - 126 := by
  have hc := cnt_le y
  by_cases h : y = ⊤
  · refine ⟨⟨255, by norm_num⟩, Or.inr rfl, ?_, ?_⟩
    · unfold field; rw [if_pos h]
    · unfold ex; rw [if_pos (Or.inr h)]; simp
  · refine ⟨⟨cnt y, by omega⟩, Or.inl hc, ?_, ?_⟩
    · unfold field; rw [if_neg h]
    · unfold ex
      by_cases h0 : cnt y = 0
      · rw [if_pos (Or.inl h0), if_pos (Or.inl h0)]
      · rw [if_neg (by tauto), if_neg]
        simp only
        omega

/-- The scale word of the field denotes two to the exponent. -/
theorem scale_word (y : EReal) :
    Ideal.ofBits .f32 (IntOp.shli ArithUnit.vector (IntOp.addi (expWord (field y)) 127#32) 23#32) = tp (ex y) := by
  obtain ⟨n, hn, hf, he⟩ := field_eq y
  have h : ∀ n : Fin 256, (n.val ≤ 246 ∨ n.val = 255) →
      IntOp.shli ArithUnit.vector (IntOp.addi (expWord (BitVec.ofNat 32 n.val)) 127#32) 23#32
        = BitVec.ofNat 32 (if n.val = 0 ∨ n.val = 255 then 127 else n.val + 1) <<< 23 := by decide +kernel
  rw [hf, h n hn, he]
  have h2 : (if n.val = 0 ∨ n.val = 255 then 127 else n.val + 1) < 255 := by split_ifs <;> omega
  have h3 : 0 < (if n.val = 0 ∨ n.val = 255 then 127 else n.val + 1) := by split_ifs <;> omega
  have := ofBits_field ⟨_, h2⟩ h3
  rw [this]
  congr 1
  simp only
  split_ifs <;> push_cast <;> omega

/-- The inverse scale word of the field denotes two to minus the exponent. -/
theorem inv_scale_word (y : EReal) :
    Ideal.ofBits .f32 (IntOp.shli ArithUnit.vector (IntOp.addi (IntOp.subi (0#32) (expWord (field y))) 127#32) 23#32) = tp (-ex y) := by
  obtain ⟨n, hn, hf, he⟩ := field_eq y
  have h : ∀ n : Fin 256, (n.val ≤ 246 ∨ n.val = 255) →
      IntOp.shli ArithUnit.vector (IntOp.addi (IntOp.subi (0#32) (expWord (BitVec.ofNat 32 n.val))) 127#32) 23#32
        = BitVec.ofNat 32 (if n.val = 0 ∨ n.val = 255 then 127 else 253 - n.val) <<< 23 := by decide +kernel
  rw [hf, h n hn, he]
  have h2 : (if n.val = 0 ∨ n.val = 255 then 127 else 253 - n.val) < 255 := by split_ifs <;> omega
  have h3 : 0 < (if n.val = 0 ∨ n.val = 255 then 127 else 253 - n.val) := by split_ifs <;> omega
  have := ofBits_field ⟨_, h2⟩ h3
  rw [this]
  congr 1
  simp only
  split_ifs <;> omega

/-! ### The exponent as a minimum over the candidates -/

/-- Two to an integer power, by the exponential function. -/
theorem exp2_int (z : ℤ) : Ideal.exp2 (((z : ℤ) : ℝ) : EReal) = tp z := by
  rw [Ideal.exp2_coe]
  unfold tp
  congr 1
  exact Real.rpow_intCast 2 z

/-- The candidate exponent at position `k`, as a word and as a number. -/
theorem candidate (k : Fin 246) :
    (FloatOps.sitofp (F := Ideal) FTy.f32 (IntOp.subi (BitVec.ofNat 32 k.val) 125#32) : EReal) = ((((k.val : ℤ) - 125 : ℤ) : ℝ) : EReal) := by
  have h : ∀ k : Fin 246, (IntOp.subi (BitVec.ofNat 32 k.val) 125#32).toInt = (k.val : ℤ) - 125 := by decide +kernel
  show (((IntOp.subi (BitVec.ofNat 32 k.val) 125#32).toInt : ℝ) : EReal) = _
  rw [h k]

/-- A minimum over a finite family that attains `v` and nowhere goes below it. -/
theorem fold_min_eq {N : ℕ} (g : Fin N → EReal) (v : EReal) (k : Fin N) (hk : g k = v) (h : ∀ k, v ≤ g k) :
    Finset.univ.fold min ⊤ g = v := by
  apply le_antisymm
  · rw [Finset.fold_min_le]
    exact Or.inr ⟨k, Finset.mem_univ _, hk.le⟩
  · rw [Finset.le_fold_min]
    exact ⟨le_top, fun k _ => h k⟩

/-- The exponent as the reference computes it is `ex`. -/
theorem ref_exponent (y : EReal) :
    (Scalar.select (IntOp.ori (BitVec.ofBool (decide (y < Ideal.ofBits .f32 0x00800000#32)))
        (BitVec.ofBool (decide (y = Ideal.ofBits .f32 0x7F800000#32)))) (0 : EReal)
      (Finset.univ.fold min (Ideal.ofBits .f32 0x7F800000#32) fun k : Fin 246 =>
        if y < (FloatOps.exp2 (F := Ideal) (φ := .f32) (FloatOps.sitofp (F := Ideal) FTy.f32 (IntOp.subi (BitVec.ofNat 32 k.val) 125#32)) : EReal)
        then (FloatOps.sitofp (F := Ideal) FTy.f32 (IntOp.subi (BitVec.ofNat 32 k.val) 125#32) : EReal)
        else Ideal.ofBits .f32 0x42F00000#32)) = (((ex y : ℤ) : ℝ) : EReal) := by
  have hc0 : cnt y = 0 ↔ y < tp (-126) := by
    have := lt_cnt y ⟨0, by norm_num⟩
    simp only [Nat.cast_zero, zero_sub] at this
    rw [← not_le, ← this]
    omega
  rw [ofBits_tiny, ofBits_top]
  have hsel : ∀ a b : EReal, (Scalar.select (IntOp.ori (BitVec.ofBool (decide (y < tp (-126))))
        (BitVec.ofBool (decide (y = ⊤)))) a b) = if cnt y = 0 ∨ y = ⊤ then a else b := by
    intro a b
    by_cases h1 : y < tp (-126) <;> by_cases h2 : y = ⊤ <;> simp [h1, h2, hc0, Scalar.select, IntOp.ori]
  rw [hsel]
  unfold ex
  by_cases h : cnt y = 0 ∨ y = ⊤
  · rw [if_pos h, if_pos h]; simp
  · rw [if_neg h, if_neg h]
    rw [not_or] at h
    have hcl := cnt_le y
    have hg : ∀ k : Fin 246, (if y < (FloatOps.exp2 (F := Ideal) (φ := .f32) (FloatOps.sitofp (F := Ideal) FTy.f32 (IntOp.subi (BitVec.ofNat 32 k.val) 125#32)) : EReal)
        then (FloatOps.sitofp (F := Ideal) FTy.f32 (IntOp.subi (BitVec.ofNat 32 k.val) 125#32) : EReal)
        else Ideal.ofBits .f32 0x42F00000#32) = if y < tp ((k.val : ℤ) - 125) then ((((k.val : ℤ) - 125 : ℤ) : ℝ) : EReal) else ((((120 : ℤ)) : ℝ) : EReal) := by
      intro k
      rw [candidate k, ofBits_120]
      rw [show (FloatOps.exp2 (F := Ideal) (φ := .f32) ((((k.val : ℤ) - 125 : ℤ) : ℝ) : EReal) : EReal) = tp ((k.val : ℤ) - 125) from exp2_int _]
      norm_num
    simp only [hg]
    have hlt : ∀ k : Fin 246, k.val + 1 < 246 → (y < tp ((k.val : ℤ) - 125) ↔ cnt y ≤ k.val + 1) := by
      intro k hk
      have := lt_cnt y ⟨k.val + 1, hk⟩
      simp only at this
      rw [show ((k.val : ℤ) - 125) = (((k.val + 1 : ℕ) : ℤ) - 126) by push_cast; ring, ← not_le, ← this]
      omega
    refine fold_min_eq _ _ ⟨cnt y - 1, by omega⟩ ?_ ?_
    · by_cases hk : cnt y < 246
      · rw [if_pos ((hlt ⟨cnt y - 1, by omega⟩ (by simp only; omega)).mpr (by simp only; omega))]
        simp only
        congr 2
        omega
      · have : cnt y = 246 := by omega
        simp only [this]
        split_ifs <;> norm_num
    · intro k
      split_ifs with hy
      · rw [EReal.coe_le_coe_iff, Int.cast_le]
        by_cases hk : k.val + 1 < 246
        · have := (hlt k hk).mp hy
          omega
        · have := k.isLt
          omega
      · rw [EReal.coe_le_coe_iff, Int.cast_le]
        omega

end Cert.Spec

end
-- ==== Proof.Softmax.lean ====
/- The softmax of a row of finite logits over the extended reals: the two usual ways of writing the logarithm of the
   normaliser and the probabilities agree. -/
module

public import Idealize.ShloMosaic.PureOps.Ideal
public import proofs.«01_k».proof.Proof.Exponent

@[expose] public section

noncomputable section

namespace Cert.Spec

open Idealize.ShloMosaic

/-- The largest logit of a row. -/
def top {n : ℕ} (z : Fin n → EReal) : EReal := Finset.univ.fold max (Ideal.ofBits .f32 0xFF800000#32) z

/-- The normaliser of a row: the sum of the exponentials of the logits less the largest. -/
def tot {n : ℕ} (z : Fin n → EReal) : EReal := ∑ j, Ideal.exp (z j - top z)

/-- The logarithm of the sum of the exponentials of a row. -/
def lse {n : ℕ} (z : Fin n → EReal) : EReal := top z + Ideal.log (tot z)

/-- The probability of entry `j` of a row. -/
def prob {n : ℕ} (z : Fin n → EReal) (j : Fin n) : EReal := Ideal.div (Ideal.exp (z j - top z)) (tot z)

/-- A finite sum of real numbers, in the extended reals. -/
theorem coe_sum {ι : Type} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The largest of a nonempty row of real numbers is a real number. -/
theorem top_coe {n : ℕ} (hn : 0 < n) (g : Fin n → ℝ) : ∃ m : ℝ, top (fun j => ((g j : ℝ) : EReal)) = m := by
  unfold top
  rw [ofBits_bot]
  obtain ⟨k, -, hk⟩ := Finset.exists_max_image (Finset.univ : Finset (Fin n)) g ⟨⟨0, hn⟩, Finset.mem_univ _⟩
  refine ⟨g k, le_antisymm ?_ ?_⟩
  · rw [Finset.fold_max_le]
    exact ⟨bot_le, fun j hj => EReal.coe_le_coe_iff.mpr (hk j hj)⟩
  · rw [Finset.le_fold_max]
    exact Or.inr ⟨k, Finset.mem_univ _, le_refl _⟩

/-- The pieces of the softmax of a nonempty row of real numbers, as real numbers. -/
theorem parts {n : ℕ} (hn : 0 < n) (g : Fin n → ℝ) : ∃ m S : ℝ, 0 < S ∧ top (fun j => ((g j : ℝ) : EReal)) = m
    ∧ tot (fun j => ((g j : ℝ) : EReal)) = S := by
  obtain ⟨m, hm⟩ := top_coe hn g
  refine ⟨m, ∑ j, Real.exp (g j - m), ?_, hm, ?_⟩
  · exact Finset.sum_pos (fun j _ => Real.exp_pos _) ⟨⟨0, hn⟩, Finset.mem_univ _⟩
  · unfold tot
    rw [hm]
    simp only [← EReal.coe_sub, Ideal.exp_coe]
    exact coe_sum _ _

/-- A row of finite extended reals is a row of real numbers. -/
theorem exists_row {n : ℕ} (z : Fin n → EReal) (hz : ∀ j, ∃ r : ℝ, z j = r) : ∃ g : Fin n → ℝ, z = fun j => ((g j : ℝ) : EReal) := by
  choose g hg using hz
  exact ⟨g, funext hg⟩

/-- The shift the guarded form subtracts is the largest logit: it is finite. -/
theorem guarded_top {n : ℕ} (hn : 0 < n) (z : Fin n → EReal) (hz : ∀ j, ∃ r : ℝ, z j = r) :
    Scalar.select (IntOp.xori (FloatOps.weird (F := Ideal)
      ((max (Ideal.ofBits .f32 0xFF800000#32) (Finset.univ.fold max (Ideal.ofBits .f32 0xFF800000#32) fun x => z x) : EReal) : Ideal .f32)) 1#1)
      (max (Ideal.ofBits .f32 0xFF800000#32) (Finset.univ.fold max (Ideal.ofBits .f32 0xFF800000#32) fun x => z x)) (0 : EReal)
    = top z := by
  obtain ⟨g, rfl⟩ := exists_row z hz
  obtain ⟨m, hm⟩ := top_coe hn g
  have h1 : (max (Ideal.ofBits .f32 0xFF800000#32) (Finset.univ.fold max (Ideal.ofBits .f32 0xFF800000#32) fun x => ((g x : ℝ) : EReal)) : EReal) = m := by
    rw [ofBits_bot, max_eq_right bot_le, ← ofBits_bot]; exact hm
  rw [h1, hm]
  have h2 : FloatOps.weird (F := Ideal) (((m : ℝ) : EReal) : Ideal .f32) = 0#1 := by
    show BitVec.ofBool (decide (((m : ℝ) : EReal) = ⊤ ∨ ((m : ℝ) : EReal) = ⊥)) = 0#1
    rw [decide_eq_false (by rintro (h | h); exact EReal.coe_ne_top _ h; exact EReal.coe_ne_bot _ h)]
    rfl
  rw [h2]
  rfl

/-- The guarded logarithm of the sum of exponentials is `lse`. -/
theorem guarded_lse {n : ℕ} (hn : 0 < n) (z : Fin n → EReal) (hz : ∀ j, ∃ r : ℝ, z j = r) :
    Ideal.log (FloatOps.absf (F := Ideal) (φ := .f32) (∑ x, Ideal.exp (z x - top z))) + top z = lse z := by
  obtain ⟨g, rfl⟩ := exists_row z hz
  obtain ⟨m, S, hS, hm, ht⟩ := parts hn g
  show Ideal.log (FloatOps.absf (F := Ideal) (φ := .f32) (tot fun j => ((g j : ℝ) : EReal))) + _ = top _ + Ideal.log (tot _)
  have ha : (FloatOps.absf (F := Ideal) (φ := .f32) ((S : ℝ) : EReal) : EReal) = S := by
    show max ((S : ℝ) : EReal) (-((S : ℝ) : EReal)) = S
    rw [← EReal.coe_neg]
    exact max_eq_left (EReal.coe_le_coe_iff.mpr (by linarith))
  rw [ht, ha, add_comm]

/-- The logarithm of the sum of exponentials of a finite row is a real number, and the exponential of a logit less it
    is the logit's probability, a real number. -/
theorem exp_sub_lse {n : ℕ} (hn : 0 < n) (z : Fin n → EReal) (hz : ∀ j, ∃ r : ℝ, z j = r) (j : Fin n) :
    Ideal.exp (z j - lse z) = prob z j ∧ ∃ r : ℝ, prob z j = r := by
  obtain ⟨g, rfl⟩ := exists_row z hz
  obtain ⟨m, S, hS, hm, ht⟩ := parts hn g
  have hp : prob (fun j => ((g j : ℝ) : EReal)) j = ((Real.exp (g j - m) * S⁻¹ : ℝ) : EReal) := by
    unfold prob
    rw [hm, ht, ← EReal.coe_sub, Ideal.exp_coe]
    unfold Ideal.div
    rw [if_neg (by exact_mod_cast hS.ne'), ← EReal.coe_inv, ← EReal.coe_mul]
  refine ⟨?_, _, hp⟩
  rw [hp]
  unfold lse
  rw [hm, ht, Ideal.log_coe, if_neg (not_le.mpr hS), ← EReal.coe_add, ← EReal.coe_sub, Ideal.exp_coe]
  congr 1
  rw [show g j - (m + Real.log S) = (g j - m) - Real.log S by ring, Real.exp_sub, Real.exp_log hS, div_eq_mul_inv]

/-- Dividing a finite sum of real numbers by a nonzero real number divides each. -/
theorem sum_div {n : ℕ} (a : Fin n → EReal) (ha : ∀ j, ∃ r : ℝ, a j = r) (c : ℝ) (hc : c ≠ 0) :
    ∑ j, Ideal.div (a j) (c : EReal) = Ideal.div (∑ j, a j) (c : EReal) := by
  obtain ⟨g, rfl⟩ := exists_row a ha
  have h0 : ((c : ℝ) : EReal) ≠ 0 := by exact_mod_cast hc
  unfold Ideal.div
  simp only [if_neg h0]
  rw [coe_sum, ← EReal.coe_inv, ← EReal.coe_mul]
  simp only [← EReal.coe_mul]
  rw [coe_sum, Finset.sum_mul]

/-- A sum of finite values is finite. -/
theorem sum_finite {ι : Type} (s : Finset ι) (a : ι → EReal) (ha : ∀ j, ∃ r : ℝ, a j = r) : ∃ r : ℝ, ∑ j ∈ s, a j = r := by
  choose g hg using ha
  exact ⟨∑ j ∈ s, g j, by rw [← coe_sum]; exact Finset.sum_congr rfl fun j _ => hg j⟩

end Cert.Spec

end
-- ==== Proof.Rows.lean ====
/- The router as functions of its arguments over the extended reals: the normalised row, its quantisation, the logits,
   the expert frequencies and the results. Nothing here speaks of tiles, blocks or buffers. -/
module

public import proofs.«01_k».proof.Proof.Softmax
public import Idealize.ShloMosaic.Lib.Pointwise.Sums
public import Idealize.ShloMosaic.Lib.IndicatorCount

@[expose] public section

set_option maxRecDepth 16384

noncomputable section

namespace Cert.Spec

open Idealize.ShloMosaic

/-- Entry `l` of the normalised row: the entry, by the reciprocal root of the mean square plus epsilon, by the weight. -/
def hRow (x n : Fin 7168 → EReal) (l : Fin 7168) : EReal :=
  x l * Ideal.rsqrt (Ideal.div (∑ k, x k * x k) (Ideal.ofBits .f32 0x45E00000#32) + Ideal.ofBits .f32 0x358637BD#32) * n l

/-- The largest absolute value of the normalised row, by the reciprocal of 448. -/
def yRow (x n : Fin 7168 → EReal) : EReal :=
  (Finset.univ.fold max (Ideal.ofBits .f32 0xFF800000#32) fun l => FloatOps.absf (F := Ideal) (φ := .f32) (hRow x n l))
    * Ideal.ofBits .f32 0x3B124925#32

/-- The scale of a row. -/
def scale (x n : Fin 7168 → EReal) : EReal := tp (ex (yRow x n))

/-- The code of entry `l` of a row: the entry by the inverse scale, clipped to `[-448, 448]`. -/
def code (x n : Fin 7168 → EReal) (l : Fin 7168) : EReal :=
  min (Ideal.ofBits .f32 0x43E00000#32) (max (Ideal.ofBits .f32 0xC3E00000#32) (hRow x n l * tp (-ex (yRow x n))))

/-- Logit `j` of a row: the contraction of the codes with the router's weights, by the scale. -/
def zRow (x n : Fin 7168 → EReal) (w : Fin 7168 → Fin 384 → EReal) (j : Fin 384) : EReal :=
  (∑ l, code x n l * w l j) * scale x n

/-- A code is a real number. -/
theorem code_finite (x n : Fin 7168 → EReal) (l : Fin 7168) : ∃ r : ℝ, code x n l = r := by
  unfold code
  rw [ofBits_448, ofBits_neg448]
  have h1 : (min ((448 : ℝ) : EReal) (max ((-448 : ℝ) : EReal) (hRow x n l * tp (-ex (yRow x n))))) ≠ ⊤ :=
    ne_top_of_le_ne_top (EReal.coe_ne_top 448) (min_le_left _ _)
  have h2 : (min ((448 : ℝ) : EReal) (max ((-448 : ℝ) : EReal) (hRow x n l * tp (-ex (yRow x n))))) ≠ ⊥ := by
    refine ne_bot_of_le_ne_bot (EReal.coe_ne_bot (-448)) (le_min ?_ (le_max_left _ _))
    exact EReal.coe_le_coe_iff.mpr (by norm_num)
  exact ⟨_, (EReal.coe_toReal h1 h2).symm⟩

/-- With finite weights the logits are real numbers. -/
theorem zRow_finite (x n : Fin 7168 → EReal) (w : Fin 7168 → Fin 384 → EReal) (hw : ∀ l j, ∃ r : ℝ, w l j = r) (j : Fin 384) :
    ∃ r : ℝ, zRow x n w j = r := by
  unfold zRow
  obtain ⟨s, hs⟩ := sum_finite Finset.univ (fun l => code x n l * w l j) fun l => by
    obtain ⟨a, ha⟩ := code_finite x n l
    obtain ⟨b, hb⟩ := hw l j
    exact ⟨a * b, by rw [ha, hb, EReal.coe_mul]⟩
  rw [hs]
  exact ⟨s * (2 : ℝ) ^ (ex (yRow x n)), by rw [EReal.coe_mul]; rfl⟩

/-! ### The expert frequencies -/

/-- One when the two words are equal, zero otherwise. -/
def ind (a b : BitVec 32) : EReal := FloatOps.sitofp (F := Ideal) .f32 (BitVec.setWidth 32 (IntOp.cmpi CmpIPredicate.eq a b))

/-- How many of the tokens' choices are expert `j`. -/
def total (I : Fin 2048 → Fin 8 → BitVec 32) (j : Fin 384) : EReal := ∑ r, ∑ c, ind (I r c) (BitVec.ofNat 32 j.val)

/-- The share of the tokens' choices that are expert `j`. -/
def freq (I : Fin 2048 → Fin 8 → BitVec 32) (j : Fin 384) : EReal := Ideal.div (total I j) (Ideal.ofBits .f32 0x46800000#32)

theorem ind_eq (a b : BitVec 32) : ind a b = if a = b then 1 else 0 := by
  unfold ind
  have h : IntOp.cmpi CmpIPredicate.eq a b = BitVec.ofBool (decide (a = b)) := by
    show BitVec.ofBool (a == b) = _
    rfl
  rw [h]
  exact sitofp_bool (a = b)

/-- A sum of equality bits in words, converted, is the sum of the indicators: the count does not wrap. -/
theorem word_count (J : Fin 16384 → BitVec 32) (b : BitVec 32) :
    (FloatOps.sitofp (F := Ideal) FTy.f32 (Finset.univ.fold IntOp.addi (0#32) fun x =>
      BitVec.setWidth 32 (IntOp.cmpi CmpIPredicate.eq (J x) b)) : EReal) = ∑ x, ind (J x) b := by
  rw [IndicatorCount.fold_addi_setWidth_eq_card (fun x => IntOp.cmpi CmpIPredicate.eq (J x) b) Finset.univ]
  have hcard : (Finset.univ.filter fun x => IntOp.cmpi CmpIPredicate.eq (J x) b = 1#1).card ≤ 16384 :=
    (Finset.card_filter_le _ _).trans (by simp)
  have hset : (Finset.univ.filter fun x => IntOp.cmpi CmpIPredicate.eq (J x) b = 1#1) = Finset.univ.filter fun x => J x = b := by
    apply Finset.filter_congr
    intro x _
    show BitVec.ofBool (J x == b) = 1#1 ↔ _
    rw [show (J x == b) = decide (J x = b) from rfl]
    by_cases h : J x = b <;> simp [h]
  simp only [ind_eq]
  rw [sum_indicator, ← hset]
  generalize (Finset.univ.filter fun x => IntOp.cmpi CmpIPredicate.eq (J x) b = 1#1).card = n at hcard ⊢
  have hn : (BitVec.ofNat 32 n).toInt = (n : ℤ) := by
    rw [BitVec.toInt_ofNat', Int.bmod_eq_of_le (by omega) (by omega)]
  show ((((BitVec.ofNat 32 n).toInt : ℤ) : ℝ) : EReal) = _
  rw [hn, Int.cast_natCast]

/-- Summing over the flat list of choices is summing over tokens and then over a token's choices. -/
theorem flat_total (I : Fin 2048 → Fin 8 → BitVec 32) (J : Fin 16384 → BitVec 32)
    (h : ∀ (r : Fin 2048) (c : Fin 8), J ⟨r.val * 8 + c.val, by omega⟩ = I r c) (j : Fin 384) :
    ∑ x, ind (J x) (BitVec.ofNat 32 j.val) = total I j := by
  unfold total
  refine (Fin.sum_univ_tiles (N := 16384) 2048 8 (by norm_num) fun x => ind (J x) (BitVec.ofNat 32 j.val)).trans ?_
  refine Finset.sum_congr rfl fun r _ => Finset.sum_congr rfl fun c _ => ?_
  exact congrArg (fun a => ind a (BitVec.ofNat 32 j.val)) (h r c)

/-- Summing over groups of 64 tokens, in a group over the eight choices and for each over the group's tokens. -/
theorem grouped_total (I : Fin 2048 → Fin 8 → BitVec 32) (j : Fin 384) :
    (∑ k : Fin 32, ∑ c : Fin 8, ∑ x : Fin 64, ind (I ⟨k.val * 64 + x.val, by omega⟩ c) (BitVec.ofNat 32 j.val)) = total I j := by
  unfold total
  rw [Fin.sum_univ_tiles (N := 2048) 32 64 (by norm_num)]
  exact Finset.sum_congr rfl fun k _ => Finset.sum_comm

/-! ### The results -/

/-- The expected frequency under a row's probabilities. -/
def gRow (z : Fin 384 → EReal) (f : Fin 384 → EReal) : EReal := ∑ j, prob z j * f j

/-- The load-balancing part of the loss. -/
def auxOf (z : Fin 384 → EReal) (f : Fin 384 → EReal) : EReal := Ideal.ofBits .f32 0x3AF5C28F#32 * gRow z f

/-- The part of the loss that keeps the normaliser small. -/
def ztOf (z : Fin 384 → EReal) : EReal := Ideal.ofBits .f32 0x3503126F#32 * (lse z * lse z)

/-- The gradient with respect to logit `j`. -/
def dlOf (z : Fin 384 → EReal) (f : Fin 384 → EReal) (j : Fin 384) : EReal :=
  prob z j * (Ideal.ofBits .f32 0x3AF5C28F#32 * (f j - gRow z f) + Ideal.ofBits .f32 0x3583126F#32 * lse z)

/-- The mean probability of expert `j`. -/
def pOf (Z : Fin 2048 → Fin 384 → EReal) (j : Fin 384) : EReal := Ideal.div (∑ r, prob (Z r) j) (Ideal.ofBits .f32 0x45000000#32)

/-- The mean may be summed in eight blocks of 256 rows, each divided. -/
theorem pOf_blocks (Z : Fin 2048 → Fin 384 → EReal) (hZ : ∀ r j, ∃ v : ℝ, Z r j = v) (j : Fin 384) :
    (∑ t : Fin 8, Ideal.div (∑ x : Fin 256, prob (Z ⟨t.val * 256 + x.val, by omega⟩) j) (Ideal.ofBits .f32 0x45000000#32)) = pOf Z j := by
  unfold pOf
  rw [ofBits_2048, sum_div _ (fun t => sum_finite _ _ fun x => (exp_sub_lse (by norm_num) _ (hZ _) j).2) _ (by norm_num),
    Fin.sum_univ_tiles (N := 2048) 8 256 (by norm_num) fun r => prob (Z r) j]

end Cert.Spec

end
-- ==== Proof.KPay.lean ====
/- The values the kernel's body stores, read at an index, as the functions of Rows.lean. -/
module

public import proofs.«01_k».proof.Proof.Gen.KernelIdeal.Skeleton
public import Idealize.ShloMosaic.Lib.Pointwise
public import proofs.«01_k».proof.Proof.Rows

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-- The normalised block is the normalised row, row by row. -/
theorem pay5_at (x : Vec Ideal S32x7168 .bf16) (n : Vec Ideal S1x7168 .f32) (r : Fin 32) (l : Fin 7168) :
    k0_pay5 (F := Ideal) x n (ix2 r l) = hRow (fun k => x (ix2 r k)) (fun k => n (ix2 0 k)) l := by
  unfold hRow
  pointwise [k0_pay5]

/-- The exponent field of a row. -/
theorem pay6_at (x : Vec Ideal S32x7168 .bf16) (n : Vec Ideal S1x7168 .f32) (r : Fin 32) :
    k0_pay6 (F := Ideal) x n (ix2 r (0 : Fin 1)) = field (yRow (fun k => x (ix2 r k)) (fun k => n (ix2 0 k))) := by
  rw [← field_word]
  unfold yRow
  rw [← ofBits_top]
  simp only [← pay5_at]
  pointwise [k0_pay6]

/-- The codes of a block from the normalised block and the exponent fields. -/
theorem pay12_word (h : FVec Ideal S32x7168 .f32) (v : IVec S32x1 32) (r : Fin 32) (l : Fin 7168) :
    k0_pay12 (F := Ideal) h v (ix2 r l) = min (Ideal.ofBits .f32 0x43E00000#32) (max (Ideal.ofBits .f32 0xC3E00000#32)
      (h (ix2 r l) * Ideal.ofBits .f32 (IntOp.shli ArithUnit.vector (IntOp.addi (IntOp.subi (0#32) (expWord (v (ix2 r (0 : Fin 1))))) 127#32) 23#32))) := by
  unfold expWord
  pointwise [k0_pay12, k0_pay11]

/-- The codes of a block are the codes of its rows. -/
theorem pay12_at (x : Vec Ideal S32x7168 .bf16) (n : Vec Ideal S1x7168 .f32) (r : Fin 32) (l : Fin 7168) :
    k0_pay12 (F := Ideal) (k0_pay5 x n) (k0_pay6 x n) (ix2 r l) = code (fun k => x (ix2 r k)) (fun k => n (ix2 0 k)) l := by
  rw [pay12_word, pay5_at, pay6_at, inv_scale_word]
  rfl

/-- The scales of a block from the exponent fields: every lane holds the row's. -/
theorem pay13_word (v : IVec S32x1 32) (r : Fin 32) (q : Fin 128) :
    k0_pay13 (F := Ideal) v (ix2 r q)
      = Ideal.ofBits .f32 (IntOp.shli ArithUnit.vector (IntOp.addi (expWord (v (ix2 r (0 : Fin 1)))) 127#32) 23#32) := by
  unfold expWord
  pointwise [k0_pay13, k0_pay11]

/-- The scales of a block are the scales of its rows. -/
theorem pay13_at (x : Vec Ideal S32x7168 .bf16) (n : Vec Ideal S1x7168 .f32) (r : Fin 32) (q : Fin 128) :
    k0_pay13 (F := Ideal) (k0_pay6 x n) (ix2 r q) = scale (fun k => x (ix2 r k)) (fun k => n (ix2 0 k)) := by
  rw [pay13_word, pay6_at, scale_word]
  rfl

/-- One pass over 64 tokens adds, for each expert, the number of their choices that are it. -/
theorem count_at (v : Vec Ideal S64x8 .i32) (acc : FVec Ideal S1x384 .f32) (j : Fin 384) :
    k0_pay8 (F := Ideal) (k0_pay2 (F := Ideal) v) (iota .tc S64x384 32 [1] iota_S64x384_d1_w32) (k0_pay3 acc v) (k0_pay4 v) (ix2 (0 : Fin 1) j)
      = acc (ix2 (0 : Fin 1) j) + ∑ c : Fin 8, ∑ x : Fin 64, ind (v (ix2 x c)) (BitVec.ofNat 32 j.val) := by
  rw [Fin.sum_univ_eight]
  unfold ind
  simp only [← add_assoc]
  pointwise [k0_pay8, k0_pay2, k0_pay3, k0_pay4]

/-- The count starts from zero. -/
theorem pay7_at (j : Fin 384) : k0_pay7 (F := Ideal) (ix2 (0 : Fin 1) j) = (0 : EReal) := by
  pointwise [k0_pay7]

/-- The mean probability starts from zero. -/
theorem pay10_at (j : Fin 384) : k0_pay10 (F := Ideal) (ix2 (0 : Fin 1) j) = (0 : EReal) := by
  pointwise [k0_pay10]

/-- The frequencies are the counts over the number of choices. -/
theorem pay9_at (v : FVec Ideal S1x384 .f32) (j : Fin 384) :
    k0_pay9 (F := Ideal) v (ix2 (0 : Fin 1) j) = Ideal.div (v (ix2 (0 : Fin 1) j)) (Ideal.ofBits .f32 0x46800000#32) := by
  pointwise [k0_pay9]

variable (s : Vec Ideal S256x128 .f32) (cd : Vec Ideal S256x7168 .fp8e4m3) (w : Vec Ideal S7168x384 .bf16)

/-- The logits of row `r` of a block from the scales, the codes and the weights the body reads. -/
def zBlk (r : Fin 256) (j : Fin 384) : EReal := (∑ l, cd (ix2 r l) * w (ix2 l j)) * s (ix2 r (0 : Fin 128))

theorem pay14_at (r : Fin 256) (j : Fin 384) : k0_pay14 (F := Ideal) s cd w (ix2 r j) = zBlk s cd w r j := by
  unfold zBlk
  pointwise [k0_pay14]

theorem pay15_at (r : Fin 256) : k0_pay15 (F := Ideal) s cd w (ix2 r (0 : Fin 1)) = top (zBlk s cd w r) := by
  unfold top
  rw [show zBlk s cd w r = fun x => k0_pay14 (F := Ideal) s cd w (ix2 r x) from funext fun x => (pay14_at s cd w r x).symm]
  pointwise [k0_pay15]

theorem pay16_at (r : Fin 256) (j : Fin 384) :
    k0_pay16 (F := Ideal) s cd w (ix2 r j) = Ideal.exp (zBlk s cd w r j - top (zBlk s cd w r)) := by
  rw [← pay15_at, ← pay14_at]
  pointwise [k0_pay16]

theorem pay17_at (r : Fin 256) : k0_pay17 (F := Ideal) s cd w (ix2 r (0 : Fin 1)) = tot (zBlk s cd w r) := by
  unfold tot
  simp only [← pay16_at]
  pointwise [k0_pay17]

theorem pay18_at (r : Fin 256) : k0_pay18 (F := Ideal) s cd w (ix2 r (0 : Fin 1)) = lse (zBlk s cd w r) := by
  unfold lse
  rw [← pay15_at, ← pay17_at]
  pointwise [k0_pay18]

theorem pay19_at (r : Fin 256) (j : Fin 384) : k0_pay19 (F := Ideal) s cd w (ix2 r j) = prob (zBlk s cd w r) j := by
  unfold prob
  rw [← pay16_at, ← pay17_at]
  pointwise [k0_pay19]

theorem pay20_at (f : Vec Ideal S1x384 .f32) (r : Fin 256) :
    k0_pay20 (F := Ideal) s cd w f (ix2 r (0 : Fin 1)) = gRow (zBlk s cd w r) (fun j => f (ix2 (0 : Fin 1) j)) := by
  unfold gRow
  simp only [← pay19_at]
  pointwise [k0_pay20]

theorem pay22_at (j : Fin 384) : k0_pay22 (F := Ideal) s cd w (ix2 (0 : Fin 1) j)
    = Ideal.div (∑ r, prob (zBlk s cd w r) j) (Ideal.ofBits .f32 0x45000000#32) := by
  simp only [← pay19_at]
  pointwise [k0_pay22]

/-- The step of the accumulated mean: the previous value plus the block's part. -/
theorem pay23_at (p : Vec Ideal S1x384 .f32) (j : Fin 384) : k0_pay23 (F := Ideal) (k0_pay21 p) (k0_pay22 s cd w) (ix2 (0 : Fin 1) j)
    = p (ix2 (0 : Fin 1) j) + Ideal.div (∑ r, prob (zBlk s cd w r) j) (Ideal.ofBits .f32 0x45000000#32) := by
  rw [← pay22_at]
  pointwise [k0_pay23, k0_pay21]

theorem pay24_at (f : Vec Ideal S1x384 .f32) (r : Fin 256) (j : Fin 384) :
    k0_pay24 (F := Ideal) (k0_pay18 s cd w) (k0_pay19 s cd w) f (k0_pay20 s cd w f) (ix2 r j)
      = dlOf (zBlk s cd w r) (fun j => f (ix2 (0 : Fin 1) j)) j := by
  unfold dlOf
  rw [← pay18_at, ← pay19_at, ← pay20_at]
  pointwise [k0_pay24]

theorem pay25_at (f : Vec Ideal S1x384 .f32) (r : Fin 256) :
    k0_pay25 (F := Ideal) (k0_pay20 s cd w f) (ix3 (0 : Fin 1) (0 : Fin 1) r) = auxOf (zBlk s cd w r) (fun j => f (ix2 (0 : Fin 1) j)) := by
  unfold auxOf
  rw [← pay20_at]
  pointwise [k0_pay25]

theorem pay26_at (r : Fin 256) :
    k0_pay26 (F := Ideal) (k0_pay18 s cd w) (ix3 (0 : Fin 1) (0 : Fin 1) r) = ztOf (zBlk s cd w r) := by
  unfold ztOf
  rw [← pay18_at]
  pointwise [k0_pay26]

theorem pay27_at (r : Fin 256) :
    k0_pay27 (F := Ideal) (k0_pay18 s cd w) (ix3 (0 : Fin 1) (0 : Fin 1) r) = lse (zBlk s cd w r) := by
  rw [← pay18_at]
  pointwise [k0_pay27]

theorem pay1_at (r : Fin 256) : k0_pay1 (F := Ideal) s (ix3 (0 : Fin 1) (0 : Fin 1) r) = s (ix2 r (0 : Fin 128)) := by
  pointwise [k0_pay1]

end Cert.KernelIdeal.Value

end
-- ==== Proof.Trip.lean ====
/- The kernel's two loops: the codes and the scales the row loop leaves in their buffers, and the counts the histogram loop ends with. -/
module

public import proofs.«01_k».proof.Proof.Gen.KernelIdeal.Loops
public import proofs.«01_k».proof.Proof.KPay
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-- The codes of a block of 256 rows. -/
def codeBlk (x : Vec Ideal S256x7168 .bf16) (n : Vec Ideal S1x7168 .f32) : Vec Ideal S256x7168 .fp8e4m3 := fun y =>
  code (fun k => x (ix2 (n0 := 256) (n1 := 7168) (y 0) k)) (fun k => n (ix2 (0 : Fin 1) k)) (y 1)

/-- The scales of a block of 256 rows, each across its 128 lanes. -/
def scaleBlk (x : Vec Ideal S256x7168 .bf16) (n : Vec Ideal S1x7168 .f32) : Vec Ideal S256x128 .f32 := fun y =>
  scale (fun k => x (ix2 (n0 := 256) (n1 := 7168) (y 0) k)) (fun k => n (ix2 (0 : Fin 1) k))

/-- 32 rows of the block from row `32 k`. -/
theorem rows_at (x : Vec Ideal S256x7168 .bf16) (k : ℕ) (o : Fin 2 → ℕ) (ho : o = ![32 * k, 0]) (inb) (r : Fin 32) (l : Fin 7168) (q : Fin 256) (hq : q.val = 32 * k + r.val) :
    View.ld (Val := Elt Ideal) (e' := .bf16) x (Rect.unit (s := S256x7168) o S32x7168.size inb) (ix2 r l) = x (ix2 q l) := by
  subst ho
  refine View.ld_unit_apply_of (Val := Elt Ideal) (e := .bf16) x _ _ inb _ _ fun a => ?_
  fin_cases a
  · exact hq
  · exact (Nat.zero_add _).symm

/-- 64 tokens of the choices from token `64 k`. -/
theorem ids_at (x : Vec Ideal S2048x8 .i32) (k : ℕ) (o : Fin 2 → ℕ) (ho : o = ![64 * k, 0]) (inb) (r : Fin 64) (l : Fin 8) (q : Fin 2048) (hq : q.val = 64 * k + r.val) :
    View.ld (Val := Elt Ideal) (e' := .i32) x (Rect.unit (s := S2048x8) o S64x8.size inb) (ix2 r l) = x (ix2 q l) := by
  subst ho
  refine View.ld_unit_apply_of (Val := Elt Ideal) (e := .i32) x _ _ inb _ _ fun a => ?_
  fin_cases a
  · exact hq
  · exact (Nat.zero_add _).symm

/-- What a trip of the row loop stores as codes, where it holds `y`, is the block's code there. -/
theorem code_tile (x : Vec Ideal S256x7168 .bf16) (n : Vec Ideal S1x7168 .f32) (k : ℕ) (o : Fin 2 → ℕ) (ho : o = ![32 * k, 0]) (inb) (y : S256x7168.Idx) :
    View.TileAt (Val := Elt Ideal) (S := S256x7168) (e := .fp8e4m3) y o ![32, 7168]
      (k0_pay12 (F := Ideal)
        (k0_pay5 (View.ld (Val := Elt Ideal) (e' := .bf16) x (Rect.unit (s := S256x7168) o S32x7168.size inb)) n)
        (k0_pay6 (View.ld (Val := Elt Ideal) (e' := .bf16) x (Rect.unit (s := S256x7168) o S32x7168.size inb)) n))
      (codeBlk x n y) := by
  subst ho
  intro z hz
  have h0 : (y 0).val = 32 * k + (z 0).val := hz 0
  have h1 : (y 1).val = 0 + (z 1).val := hz 1
  have e : y 1 = z 1 := Fin.ext (h1.trans (Nat.zero_add _))
  have ez := eq_ix2 (n0 := 32) (n1 := 7168) z
  generalize hr : (z 0 : Fin 32) = r at *
  generalize hl : (z 1 : Fin 7168) = l at *
  subst ez
  refine (pay12_at _ n r l).trans ?_
  unfold codeBlk
  rw [e]
  refine congrArg (fun f : Fin 7168 → EReal => code f (fun k => n (ix2 (0 : Fin 1) k)) l) (funext fun q => ?_)
  exact rows_at x k _ rfl inb r q (y 0) h0

/-- What a trip of the row loop stores as scales, where it holds `y`, is the block's scale there. -/
theorem scale_tile (x : Vec Ideal S256x7168 .bf16) (n : Vec Ideal S1x7168 .f32) (k : ℕ) (o o' : Fin 2 → ℕ) (ho : o = ![32 * k, 0]) (ho' : o' = ![32 * k, 0]) (inb) (y : S256x128.Idx) :
    View.TileAt (Val := Elt Ideal) (S := S256x128) (e := .f32) y o' ![32, 128]
      (k0_pay13 (F := Ideal)
        (k0_pay6 (View.ld (Val := Elt Ideal) (e' := .bf16) x (Rect.unit (s := S256x7168) o S32x7168.size inb)) n))
      (scaleBlk x n y) := by
  subst ho ho'
  intro z hz
  have h0 : (y 0).val = 32 * k + (z 0).val := hz 0
  have ez := eq_ix2 (n0 := 32) (n1 := 128) z
  generalize hr : (z 0 : Fin 32) = r at *
  generalize hl : (z 1 : Fin 128) = l at *
  subst ez
  refine (pay13_at _ n r l).trans ?_
  unfold scaleBlk
  refine congrArg (fun f : Fin 7168 → EReal => scale f (fun k => n (ix2 (0 : Fin 1) k))) (funext fun q => ?_)
  exact rows_at x k _ rfl inb r q (y 0) h0

/-- The row loop makes eight trips. -/
theorem trips2 : k0_t2_loop.trips = 8 := by decide +kernel

/-- The histogram loop makes 32 trips. -/
theorem trips1 : k0_t1_loop.trips = 32 := by decide +kernel

variable (𝒱 : Variants) (bd : Option 𝒱.V) (c : Dev nD) (i : grid0.Coords) (arg1 : Memref sig .tc .vmem S2048x8 .i32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S7168x384 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x384 .f32) (harg7 : arg7.IsWhole) (arg8 : Memref sig .tc .vmem S1x1x256 .f32) (harg8 : arg8.IsWhole) (arg9 : Memref sig .tc .vmem S256x384 .f32) (harg9 : arg9.IsWhole) (arg10 : Memref sig .tc .vmem S256x7168 .fp8e4m3) (harg10 : arg10.IsWhole) (arg11 : Memref sig .tc .vmem S1x1x256 .f32) (harg11 : arg11.IsWhole) (arg12 : Memref sig .tc .vmem S1x384 .f32) (harg12 : arg12.IsWhole) (arg13 : Memref sig .tc .vmem S256x128 .f32) (harg13 : arg13.IsWhole)

/-- One trip of the row loop: the 32 rows' codes and their scales are stored. -/
theorem trip2_eq (X2 : BufTy.Contents (Elt Ideal) arg2.view.ty) (X3 : BufTy.Contents (Elt Ideal) arg3.view.ty) (k : Fin k0_t2_loop.trips) :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X2 X3 k).1
      = [⟨Rect.unit (s := S256x7168) (k0_off2 k) ![32, 7168] (k0_off2_inb k), k0_pay12 (F := Ideal)
          (k0_pay5 (View.readAt (Elt Ideal) arg2.view (Rect.unit (s := S256x7168) (k0_off2 k) S32x7168.size (k0_off2_inb k)).toLoadRect X2)
            (View.readAt (Elt Ideal) arg3.view (Rect.unit (s := S1x7168) ![0, 0] S1x7168.size inb_S1x7168_S1x7168_0_0).toLoadRect X3))
          (k0_pay6 (View.readAt (Elt Ideal) arg2.view (Rect.unit (s := S256x7168) (k0_off2 k) S32x7168.size (k0_off2_inb k)).toLoadRect X2)
            (View.readAt (Elt Ideal) arg3.view (Rect.unit (s := S1x7168) ![0, 0] S1x7168.size inb_S1x7168_S1x7168_0_0).toLoadRect X3))⟩]
    ∧ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1
      = [⟨Rect.unit (s := S256x128) (k0_off3 k) ![32, 128] (k0_off3_inb k), k0_pay13 (F := Ideal)
          (k0_pay6 (View.readAt (Elt Ideal) arg2.view (Rect.unit (s := S256x7168) (k0_off2 k) S32x7168.size (k0_off2_inb k)).toLoadRect X2)
            (View.readAt (Elt Ideal) arg3.view (Rect.unit (s := S1x7168) ![0, 0] S1x7168.size inb_S1x7168_S1x7168_0_0).toLoadRect X3))⟩] := by
  unfold trip_k0_t2
  dsimp only
  unfold trip_k0_t2.sl.r_1
  unfold trip_k0_t2.sl.r
  exact ⟨rfl, rfl⟩

/-- One trip of the histogram loop: the counts of 64 tokens are added. -/
theorem trip1_eq (k0_h1 : k0_cond1 i = 1#1) (X1 : BufTy.Contents (Elt Ideal) arg1.view.ty) (k : Fin k0_t1_loop.trips) (acc : FVec Ideal S1x384 .f32) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X1 k).1 acc
      = k0_pay8 (k0_pay2 (F := Ideal) (View.readAt (Elt Ideal) arg1.view (Rect.unit (s := S2048x8) (k0_off1 k) S64x8.size (k0_off1_inb i k k0_h1)).toLoadRect X1))
          (iota .tc S64x384 32 [1] iota_S64x384_d1_w32)
          (k0_pay3 acc (View.readAt (Elt Ideal) arg1.view (Rect.unit (s := S2048x8) (k0_off1 k) S64x8.size (k0_off1_inb i k k0_h1)).toLoadRect X1))
          (k0_pay4 (View.readAt (Elt Ideal) arg1.view (Rect.unit (s := S2048x8) (k0_off1 k) S64x8.size (k0_off1_inb i k k0_h1)).toLoadRect X1)) := by
  unfold trip_k0_t1
  dsimp only
  unfold trip_k0_t1.sl.r_1 trip_k0_t1.sl.r_2 trip_k0_t1.sl.r trip_k0_t1.sl.v94
  rfl

/-- After `m` trips of the row loop every stored piece holds the block's codes, and the rows below `32 m` are stored. -/
theorem codes_upto (x : Vec Ideal S256x7168 .bf16) (n : Vec Ideal S1x7168 .f32) (y : S256x7168.Idx) (m : ℕ) (hm : m ≤ k0_t2_loop.trips) :
    View.AllAt (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) m).1 y (codeBlk x n y)
    ∧ ((y 0).val < 32 * m → ∃ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) m).1, y ∈ p.1.set) := by
  induction m with
  | zero => exact ⟨View.allAt_nil _ _, fun h => absurd h (by omega)⟩
  | succ m ih =>
    obtain ⟨ih1, ih2⟩ := ih (by omega)
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) ⟨m, hm⟩
    dsimp only at hs
    rw [hs]
    dsimp only [tripL_k0_t2]
    rw [(trip2_eq 𝒱 bd c i arg1 harg1 arg2 harg2 arg3 harg3 arg4 harg4 arg5 harg5 arg6 harg6 arg7 harg7 arg8 harg8 arg9 harg9 arg10 harg10 arg11 harg11 arg12 harg12 arg13 harg13 (harg2.unread x) (harg3.unread n) ⟨m, hm⟩).1]
    rw [List.singleton_append]
    constructor
    · refine View.allAt_cons_unit _ _ _ _ _ ?_ ih1
      rw [View.readAt_eq_ld, View.readAt_eq_ld, harg2.read_unread, harg3.read_unread, View.ld_unit_lit _ n (by decide)]
      exact code_tile x n m _ (k0_off2_eq ⟨m, hm⟩) _ y
    · intro hy
      by_cases h : (y 0).val < 32 * m
      · obtain ⟨p, hp, hyp⟩ := ih2 h
        exact ⟨p, List.mem_cons_of_mem _ hp, hyp⟩
      · refine ⟨_, List.mem_cons_self, ?_⟩
        rw [Rect.mem_set_unit, k0_off2_eq]
        intro a
        have h1 : (y 1).val < 7168 := (y 1).isLt
        fin_cases a
        · exact ⟨by show 32 * m ≤ (y 0).val; omega, by show (y 0).val < 32 * m + 32; omega⟩
        · exact ⟨Nat.zero_le _, by show (y 1).val < 0 + 7168; omega⟩

/-- After `m` trips of the row loop every stored piece holds the block's scales, and the rows below `32 m` are stored. -/
theorem scales_upto (x : Vec Ideal S256x7168 .bf16) (n : Vec Ideal S1x7168 .f32) (y : S256x128.Idx) (m : ℕ) (hm : m ≤ k0_t2_loop.trips) :
    View.AllAt (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) m).2 y (scaleBlk x n y)
    ∧ ((y 0).val < 32 * m → ∃ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) m).2, y ∈ p.1.set) := by
  induction m with
  | zero => exact ⟨View.allAt_nil _ _, fun h => absurd h (by omega)⟩
  | succ m ih =>
    obtain ⟨ih1, ih2⟩ := ih (by omega)
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) ⟨m, hm⟩
    dsimp only at hs
    rw [hs]
    dsimp only [tripL_k0_t2]
    rw [(trip2_eq 𝒱 bd c i arg1 harg1 arg2 harg2 arg3 harg3 arg4 harg4 arg5 harg5 arg6 harg6 arg7 harg7 arg8 harg8 arg9 harg9 arg10 harg10 arg11 harg11 arg12 harg12 arg13 harg13 (harg2.unread x) (harg3.unread n) ⟨m, hm⟩).2]
    rw [List.singleton_append]
    constructor
    · refine View.allAt_cons_unit _ _ _ _ _ ?_ ih1
      rw [View.readAt_eq_ld, View.readAt_eq_ld, harg2.read_unread, harg3.read_unread, View.ld_unit_lit _ n (by decide)]
      exact scale_tile x n m _ _ (k0_off2_eq ⟨m, hm⟩) (k0_off3_eq ⟨m, hm⟩) _ y
    · intro hy
      by_cases h : (y 0).val < 32 * m
      · obtain ⟨p, hp, hyp⟩ := ih2 h
        exact ⟨p, List.mem_cons_of_mem _ hp, hyp⟩
      · refine ⟨_, List.mem_cons_self, ?_⟩
        rw [Rect.mem_set_unit, k0_off3_eq]
        intro a
        have h1 : (y 1).val < 128 := (y 1).isLt
        fin_cases a
        · exact ⟨by show 32 * m ≤ (y 0).val; omega, by show (y 0).val < 32 * m + 32; omega⟩
        · exact ⟨Nat.zero_le _, by show (y 1).val < 0 + 128; omega⟩

/-- The row loop leaves the block's codes in their buffer. -/
theorem canon_codes (x : Vec Ideal S256x7168 .bf16) (n : Vec Ideal S1x7168 .f32) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) k0_t2_loop.trips).1 = codeBlk x n := by
  funext y
  obtain ⟨h1, h2⟩ := codes_upto 𝒱 bd c i arg1 harg1 arg2 harg2 arg3 harg3 arg4 harg4 arg5 harg5 arg6 harg6 arg7 harg7 arg8 harg8 arg9 harg9 arg10 harg10 arg11 harg11 arg12 harg12 arg13 harg13 x n y _ le_rfl
  refine View.canon_eq_of_allAt _ y _ (h2 ?_) h1
  rw [trips2]
  exact (y 0).isLt

/-- The row loop leaves the block's scales in their buffer. -/
theorem canon_scales (x : Vec Ideal S256x7168 .bf16) (n : Vec Ideal S1x7168 .f32) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) k0_t2_loop.trips).2 = scaleBlk x n := by
  funext y
  obtain ⟨h1, h2⟩ := scales_upto 𝒱 bd c i arg1 harg1 arg2 harg2 arg3 harg3 arg4 harg4 arg5 harg5 arg6 harg6 arg7 harg7 arg8 harg8 arg9 harg9 arg10 harg10 arg11 harg11 arg12 harg12 arg13 harg13 x n y _ le_rfl
  refine View.canon_eq_of_allAt _ y _ (h2 ?_) h1
  rw [trips2]
  exact (y 0).isLt

/-- Reading the codes' buffer whole after the row loop. -/
theorem read_codes (x : Vec Ideal S256x7168 .bf16) (n : Vec Ideal S1x7168 .f32) :
    arg10.view.readCov (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) k0_t2_loop.trips).1
      (Rect.unit (s := S256x7168) ![0, 0] ![256, 7168] inb_S256x7168_S256x7168_0_0).toLoadRect = codeBlk x n := by
  rw [View.readCov_eq_canon', canon_codes]
  exact View.ld_unit_lit (Val := Elt Ideal) (e := .fp8e4m3) inb_S256x7168_S256x7168_0_0 (codeBlk x n) (by decide)

/-- Reading the scales' buffer whole after the row loop. -/
theorem read_scales (x : Vec Ideal S256x7168 .bf16) (n : Vec Ideal S1x7168 .f32) :
    arg13.view.readCov (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread x) (harg3.unread n) k0_t2_loop.trips).2
      (Rect.unit (s := S256x128) ![0, 0] ![256, 128] inb_S256x128_S256x128_0_0).toLoadRect = scaleBlk x n := by
  rw [View.readCov_eq_canon', canon_scales]
  exact View.ld_unit_lit (Val := Elt Ideal) (e := .f32) inb_S256x128_S256x128_0_0 (scaleBlk x n) (by decide)

/-- The count after `m` trips of the histogram loop. -/
theorem counts_upto (k0_h1 : k0_cond1 i = 1#1) (x : Vec Ideal S2048x8 .i32) (j : Fin 384) (m : ℕ) (hm : m ≤ 32) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 (harg1.unread x) (k0_pay7 (F := Ideal)) m) (ix2 (0 : Fin 1) j)
      = ∑ k : Fin m, ∑ c : Fin 8, ∑ r : Fin 64, ind (x (ix2 (⟨k.val * 64 + r.val, by omega⟩ : Fin 2048) c)) (BitVec.ofNat 32 j.val) := by
  induction m with
  | zero => rw [st_k0_t1_zero, pay7_at]; exact (Finset.sum_empty).symm
  | succ m ih =>
    have hk : m < k0_t1_loop.trips := by rw [trips1]; omega
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 (harg1.unread x) (k0_pay7 (F := Ideal)) ⟨m, hk⟩
    dsimp only at hs
    rw [hs, tripR_k0_t1, trip1_eq, count_at, ih (by omega)]
    refine Eq.trans ?_ (Fin.sum_univ_castSucc _).symm
    refine congrArg₂ (fun u v : EReal => u + v) rfl (Finset.sum_congr rfl fun c _ => Finset.sum_congr rfl fun r _ => ?_)
    refine congrArg (fun b => ind b (BitVec.ofNat 32 j.val)) ?_
    rw [View.readAt_eq_ld, harg1.read_unread]
    exact ids_at x m _ (k0_off1_eq ⟨m, hk⟩) _ r c _ (by show m * 64 + r.val = 64 * m + r.val; omega)

/-- The histogram loop ends with the counts of all tokens' choices. -/
theorem counts_all (k0_h1 : k0_cond1 i = 1#1) (x : Vec Ideal S2048x8 .i32) (j : Fin 384) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 (harg1.unread x) (k0_pay7 (F := Ideal)) k0_t1_loop.trips) (ix2 (0 : Fin 1) j)
      = total (fun r c => x (ix2 r c)) j := by
  rw [trips1, counts_upto 𝒱 bd c i arg1 harg1 arg2 harg2 arg3 harg3 arg4 harg4 arg5 harg5 arg6 harg6 arg7 harg7 arg8 harg8 arg9 harg9 arg10 harg10 arg11 harg11 arg12 harg12 arg13 harg13 k0_h1 x j 32 le_rfl]
  exact grouped_total (fun r c => x (ix2 r c)) j

end Cert.KernelIdeal.Value

end
-- ==== Proof.KCase.lean ====
/- What one grid point of the kernel leaves in each result's block and in the buffer of frequencies it carries. -/
module

public import proofs.«01_k».proof.Proof.Gen.KernelIdeal.Frame
public import proofs.«01_k».proof.Proof.Trip

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-- The frequencies of the experts among the choices, as a row. -/
def freqV (x : Vec Ideal S2048x8 .i32) : Vec Ideal S1x384 .f32 := fun y => freq (fun r c => x (ix2 r c)) (y 1)

variable (c : Dev nD) (i : grid0.Coords) (arg1 : Memref sig .tc .vmem S2048x8 .i32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S7168x384 .bf16) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x384 .f32) (harg7 : arg7.IsWhole) (arg8 : Memref sig .tc .vmem S1x1x256 .f32) (harg8 : arg8.IsWhole) (arg9 : Memref sig .tc .vmem S256x384 .f32) (harg9 : arg9.IsWhole) (arg10 : Memref sig .tc .vmem S256x7168 .fp8e4m3) (harg10 : arg10.IsWhole) (arg11 : Memref sig .tc .vmem S1x1x256 .f32) (harg11 : arg11.IsWhole) (arg12 : Memref sig .tc .vmem S1x384 .f32) (harg12 : arg12.IsWhole) (arg13 : Memref sig .tc .vmem S256x128 .f32) (harg13 : arg13.IsWhole)
 (x0 : Vec Ideal S2048x8 .i32) (x1 : Vec Ideal S256x7168 .bf16) (x2 : Vec Ideal S1x7168 .f32) (x3 : Vec Ideal S7168x384 .bf16) (xo6 : Vec Ideal S1x384 .f32) (xs0 : Vec Ideal S1x384 .f32)

theorem rC : arg10.view.readCov (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2) (Scf.trips (0#32) (Scalar.addi 0#32 8#32) 1#32)).1
      (Rect.unit (s := S256x7168) ![0, 0] ![256, 7168] inb_S256x7168_S256x7168_0_0).toLoadRect = codeBlk x1 x2 :=
  read_codes Variants.none none c i arg1 harg1 arg2 harg2 arg3 harg3 arg4 harg4 arg5 harg5 arg6 harg6 arg7 harg7 arg8 harg8 arg9 harg9 arg10 harg10 arg11 harg11 arg12 harg12 arg13 harg13 x1 x2

theorem rS : arg13.view.readCov (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2) (Scf.trips (0#32) (Scalar.addi 0#32 8#32) 1#32)).2
      (Rect.unit (s := S256x128) ![0, 0] ![256, 128] inb_S256x128_S256x128_0_0).toLoadRect = scaleBlk x1 x2 :=
  read_scales Variants.none none c i arg1 harg1 arg2 harg2 arg3 harg3 arg4 harg4 arg5 harg5 arg6 harg6 arg7 harg7 arg8 harg8 arg9 harg9 arg10 harg10 arg11 harg11 arg12 harg12 arg13 harg13 x1 x2

theorem cC : View.canon (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2) (Scf.trips (0#32) (Scalar.addi 0#32 8#32) 1#32)).1 = codeBlk x1 x2 :=
  canon_codes Variants.none none c i arg1 harg1 arg2 harg2 arg3 harg3 arg4 harg4 arg5 harg5 arg6 harg6 arg7 harg7 arg8 harg8 arg9 harg9 arg10 harg10 arg11 harg11 arg12 harg12 arg13 harg13 x1 x2

/-- The histogram loop's counts over the number of choices are the frequencies. -/
theorem hist (hc0 : k0_cond1 i = 1#1) : k0_pay9 (F := Ideal) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 (harg1.unread x0) (k0_pay7 (F := Ideal)) (Scf.trips (0#32) (Scalar.addi 0#32 32#32) 1#32))
    = freqV x0 := by
  funext y
  have e : y = ix2 (0 : Fin 1) (y 1) := by
    refine (eq_ix2 (n0 := 1) (n1 := 384) y).trans (congrArg (fun a => ix2 a (y 1)) (Subsingleton.elim (α := Fin 1) _ _))
  generalize hj : (y 1 : Fin 384) = j at *
  subst e
  refine (pay9_at _ j).trans ?_
  exact congrArg (fun v => Ideal.div v (Ideal.ofBits .f32 0x46800000#32)) (counts_all Variants.none none c i arg1 harg1 arg2 harg2 arg3 harg3 arg4 harg4 arg5 harg5 arg6 harg6 arg7 harg7 arg8 harg8 arg9 harg9 arg10 harg10 arg11 harg11 arg12 harg12 arg13 harg13 hc0 x0 j)

/-- Result window 4 at the first point. -/
theorem outA4 (hc0 : cond0_0 i) : out0_A_4 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3
    = k0_pay25 (F := Ideal) (k0_pay20 (scaleBlk x1 x2) (codeBlk x1 x2) x3 (freqV x0)) := by
  frame_out
  rw [rS, rC, hist]

/-- Result window 5 at the first point. -/
theorem outA5 (hc0 : cond0_0 i) : out0_A_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3
    = k0_pay26 (F := Ideal) (k0_pay18 (scaleBlk x1 x2) (codeBlk x1 x2) x3) := by
  frame_out
  rw [rS, rC]

/-- Result window 6 at the first point. -/
theorem outA6 (hc0 : cond0_0 i) : out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3
    = k0_pay23 (F := Ideal) (k0_pay21 (k0_pay10 (F := Ideal))) (k0_pay22 (scaleBlk x1 x2) (codeBlk x1 x2) x3) := by
  frame_out
  rw [rS, rC]

/-- Result window 7 at the first point. -/
theorem outA7 (hc0 : cond0_0 i) : out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3
    = k0_pay27 (F := Ideal) (k0_pay18 (scaleBlk x1 x2) (codeBlk x1 x2) x3) := by
  frame_out
  rw [rS, rC]

/-- Result window 8 at the first point. -/
theorem outA8 (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3
    = k0_pay24 (F := Ideal) (k0_pay18 (scaleBlk x1 x2) (codeBlk x1 x2) x3) (k0_pay19 (scaleBlk x1 x2) (codeBlk x1 x2) x3) (freqV x0) (k0_pay20 (scaleBlk x1 x2) (codeBlk x1 x2) x3 (freqV x0)) := by
  frame_out
  rw [rS, rC, hist]

/-- Result window 9 at the first point. -/
theorem outA9 (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3
    = codeBlk x1 x2 := by
  frame_out
  rw [cC]

/-- Result window 10 at the first point. -/
theorem outA10 (hc0 : cond0_0 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3
    = k0_pay1 (F := Ideal) (scaleBlk x1 x2) := by
  frame_out
  rw [rS]

/-- Result window 4 at a later point. -/
theorem outB4 (hc0 : ¬cond0_0 i) : out0_B_4 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 xo6 xs0
    = k0_pay25 (F := Ideal) (k0_pay20 (scaleBlk x1 x2) (codeBlk x1 x2) x3 xs0) := by
  frame_out
  rw [rS, rC]

/-- Result window 5 at a later point. -/
theorem outB5 (hc0 : ¬cond0_0 i) : out0_B_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 xo6 xs0
    = k0_pay26 (F := Ideal) (k0_pay18 (scaleBlk x1 x2) (codeBlk x1 x2) x3) := by
  frame_out
  rw [rS, rC]

/-- Result window 6 at a later point. -/
theorem outB6 (hc0 : ¬cond0_0 i) : out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 xo6 xs0
    = k0_pay23 (F := Ideal) (k0_pay21 xo6) (k0_pay22 (scaleBlk x1 x2) (codeBlk x1 x2) x3) := by
  frame_out
  rw [rS, rC]

/-- Result window 7 at a later point. -/
theorem outB7 (hc0 : ¬cond0_0 i) : out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 xo6 xs0
    = k0_pay27 (F := Ideal) (k0_pay18 (scaleBlk x1 x2) (codeBlk x1 x2) x3) := by
  frame_out
  rw [rS, rC]

/-- Result window 8 at a later point. -/
theorem outB8 (hc0 : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 xo6 xs0
    = k0_pay24 (F := Ideal) (k0_pay18 (scaleBlk x1 x2) (codeBlk x1 x2) x3) (k0_pay19 (scaleBlk x1 x2) (codeBlk x1 x2) x3) xs0 (k0_pay20 (scaleBlk x1 x2) (codeBlk x1 x2) x3 xs0) := by
  frame_out
  rw [rS, rC]

/-- Result window 9 at a later point. -/
theorem outB9 (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 xo6 xs0
    = codeBlk x1 x2 := by
  frame_out
  rw [cC]

/-- Result window 10 at a later point. -/
theorem outB10 (hc0 : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 xo6 xs0
    = k0_pay1 (F := Ideal) (scaleBlk x1 x2) := by
  frame_out
  rw [rS]

/-- The first point leaves the frequencies in the buffer it carries. -/
theorem soutA (hc0 : cond0_0 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 = freqV x0 := by
  frame_out
  rw [hist]

/-- A later point leaves that buffer as it was. -/
theorem soutB (hc0 : ¬cond0_0 i) : sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 xo6 xs0 = xs0 := by
  rfl

end Cert.KernelIdeal.Value

end
-- ==== Proof.Results.lean ====
/- The seven results as functions of the four arguments: what both programs compute. -/
module

public import proofs.«01_k».proof.Proof.Rows

@[expose] public section

noncomputable section

namespace Cert.Spec

open Idealize.ShloMosaic

/-- The token at place `b` of group `a` of 256. -/
def tok (a : Fin 8) (b : Fin 256) : Fin 2048 := ⟨a.val * 256 + b.val, by omega⟩

variable (X : Vec Ideal ⟨3, ![2, 1024, 7168]⟩ .bf16) (N : Vec Ideal ⟨1, ![7168]⟩ .f32)
  (W : Vec Ideal ⟨2, ![7168, 384]⟩ .bf16) (I : Vec Ideal ⟨3, ![2, 1024, 8]⟩ .i32)

/-- The hidden state of token `r`. -/
def xs (r : Fin 2048) (l : Fin 7168) : EReal := X (ix3 (⟨r.val / 1024, by omega⟩ : Fin 2) (⟨r.val % 1024, by omega⟩ : Fin 1024) l)

/-- The weights of the norm. -/
def ns (l : Fin 7168) : EReal := N (ix1 l)

/-- The weights of the router. -/
def ws (l : Fin 7168) (j : Fin 384) : EReal := W (ix2 l j)

/-- The experts chosen by token `r`. -/
def is (r : Fin 2048) (c : Fin 8) : BitVec 32 := I (ix3 (⟨r.val / 1024, by omega⟩ : Fin 2) (⟨r.val % 1024, by omega⟩ : Fin 1024) c)

/-- The logits of token `r`. -/
def Z (r : Fin 2048) : Fin 384 → EReal := zRow (xs X r) (ns N) (ws W)

/-- The load-balancing loss of each token. -/
def auxR : Vec Ideal ⟨3, ![8, 1, 256]⟩ .f32 := fun y => auxOf (Z X N W (tok (y 0) (y 2))) (freq (is I))

/-- The normaliser loss of each token. -/
def ztR : Vec Ideal ⟨3, ![8, 1, 256]⟩ .f32 := fun y => ztOf (Z X N W (tok (y 0) (y 2)))

/-- The mean probability of each expert. -/
def pR : Vec Ideal ⟨2, ![1, 384]⟩ .f32 := fun y => pOf (Z X N W) (y 1)

/-- The logarithm of the normaliser of each token. -/
def lseR : Vec Ideal ⟨3, ![8, 1, 256]⟩ .f32 := fun y => lse (Z X N W (tok (y 0) (y 2)))

/-- The gradient with respect to the logits. -/
def dlR : Vec Ideal ⟨2, ![2048, 384]⟩ .f32 := fun y => dlOf (Z X N W (y 0)) (freq (is I)) (y 1)

/-- The codes. -/
def codeR : Vec Ideal ⟨2, ![2048, 7168]⟩ .fp8e4m3 := fun y => code (xs X (y 0)) (ns N) (y 1)

/-- The scale of each token's codes. -/
def scaleR : Vec Ideal ⟨3, ![8, 1, 256]⟩ .f32 := fun y => scale (xs X (tok (y 0) (y 2))) (ns N)

/-- With finite weights the logits are real numbers. -/
theorem Z_finite (hW : ∀ l j, ∃ r : ℝ, ws W l j = r) (r : Fin 2048) (j : Fin 384) : ∃ v : ℝ, Z X N W r j = v :=
  zRow_finite _ _ _ hW j

end Cert.Spec

end
-- ==== Proof.KRead.lean ====
/- The kernel's blocks read as parts of its arguments, and what each grid point leaves in the result windows. -/
module

public import proofs.«01_k».proof.Proof.KCase
public import proofs.«01_k».proof.Proof.KPay
public import proofs.«01_k».proof.Proof.Results
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (c : Dev nD)

/-- The windows' index maps at every point. -/
theorem idx : ∀ t : Fin cfg0.N, win0_0.index t = ![0, 0] ∧ win0_1.index t = ![t.val, 0] ∧ win0_2.index t = ![0, 0] ∧ win0_3.index t = ![0, 0]
    ∧ win0_4.index t = ![t.val, 0, 0] ∧ win0_5.index t = ![t.val, 0, 0] ∧ win0_6.index t = ![0, 0] ∧ win0_7.index t = ![t.val, 0, 0]
    ∧ win0_8.index t = ![t.val, 0] ∧ win0_9.index t = ![t.val, 0] ∧ win0_10.index t = ![t.val, 0, 0] :=
  (by decide +kernel : ∀ t : Fin grid0.N, _)

/-- The point as a number below 8. -/
def pt (t : Fin cfg0.N) : Fin 8 := ⟨t.val, lt_of_lt_of_eq t.isLt N_0⟩

/-- The argument arrays. -/
abbrev aX : Vec Ideal S2x1024x7168 .bf16 := m ((c : Thread nD τ).loc main_arg0)
abbrev aN : Vec Ideal S7168 .f32 := m ((c : Thread nD τ).loc main_arg1)
abbrev aW : Vec Ideal S7168x384 .bf16 := m ((c : Thread nD τ).loc main_arg2)
abbrev aI : Vec Ideal S2x1024x8 .i32 := m ((c : Thread nD τ).loc main_arg3)

/-- The four blocks at a point. -/
abbrev b0 (t : Fin cfg0.N) : Vec Ideal S2048x8 .i32 := iblk m c 0 t
abbrev b1 (t : Fin cfg0.N) : Vec Ideal S256x7168 .bf16 := iblk m c 1 t
abbrev b2 (t : Fin cfg0.N) : Vec Ideal S1x7168 .f32 := iblk m c 2 t
abbrev b3 (t : Fin cfg0.N) : Vec Ideal S7168x384 .bf16 := iblk m c 3 t

theorem read0 (t : Fin cfg0.N) (r : Fin 2048) (k : Fin 8) : b0 m c t (ix2 r k) = is (aI m c) r k := by
  unfold b0 is
  blk_simp [iblk, idx t]
  entry_read
  pointwise
  blk_ext [idx t]

theorem read1 (t : Fin cfg0.N) (r : Fin 256) (l : Fin 7168) : b1 m c t (ix2 r l) = xs (aX m c) (tok (pt t) r) l := by
  unfold b1 xs tok pt
  blk_simp [iblk, idx t]
  entry_read
  pointwise
  blk_ext [idx t]

theorem read2 (t : Fin cfg0.N) (l : Fin 7168) : b2 m c t (ix2 (0 : Fin 1) l) = ns (aN m c) l := by
  unfold b2 ns
  blk_simp [iblk, idx t]
  entry_read
  pointwise
  blk_ext [idx t]

theorem read3 (t : Fin cfg0.N) (l : Fin 7168) (j : Fin 384) : b3 m c t (ix2 l j) = ws (aW m c) l j := by
  unfold b3 ws
  blk_ext [iblk, V, idx t]

/-- The frequencies as the kernel carries them. -/
def fB : Vec Ideal S1x384 .f32 := fun y => freq (is (aI m c)) (y 1)

/-- The first window's block is the same at every point: all the choices. -/
theorem freq0 (t : Fin cfg0.N) : freqV (iblk m c 0 t) = fB m c := by
  funext y
  unfold freqV fB
  rw [show (fun r k => b0 m c t (ix2 r k)) = is (aI m c) from funext fun r => funext fun k => read0 m c t r k]

/-- The scales and codes of the block at a point. -/
abbrev sB (t : Fin cfg0.N) := scaleBlk (b1 m c t) (b2 m c t)
abbrev cB (t : Fin cfg0.N) := codeBlk (b1 m c t) (b2 m c t)
/-- Every point leaves the frequencies in the buffer it carries. -/
theorem carried (t : Fin cfg0.N) : (outsAt0 m c t.val t.isLt).2.2.2.2.2.2.2 = fB m c := by
  obtain ⟨n, hn⟩ := t
  induction n with
  | zero =>
    rw [outsAt0_A m c ⟨0, hn⟩ (Nat.zero_mod 8)]
    dsimp only
    rw [soutA]
    exact freq0 m c _
  | succ n ih =>
    have h : ¬ (n + 1) % 8 = 0 := by have := lt_of_lt_of_eq hn N_0; omega
    rw [outsAt0_B m c ⟨n + 1, hn⟩ h]
    dsimp only
    rw [soutB]
    exact ih (Nat.lt_of_succ_lt hn)

/-- The buffer of frequencies as a later point finds it. -/
theorem carried_prev (t : Fin cfg0.N) (h : t.val - 1 < cfg0.N) : (outsAt0 m c (t.val - 1) h).2.2.2.2.2.2.2 = fB m c :=
  carried m c ⟨t.val - 1, h⟩

theorem win4 (t : Fin cfg0.N) : (outsAt0 m c t.val t.isLt).1 = k0_pay25 (F := Ideal) (k0_pay20 (sB m c t) (cB m c t) (b3 m c t) (fB m c)) := by
  by_cases h : t.val % 8 = 0
  · rw [outsAt0_A m c t h]; dsimp only; rw [outA4, freq0]
  · rw [outsAt0_B m c t h]; dsimp only; rw [outB4, carried_prev]

theorem win5 (t : Fin cfg0.N) : (outsAt0 m c t.val t.isLt).2.1 = k0_pay26 (F := Ideal) (k0_pay18 (sB m c t) (cB m c t) (b3 m c t)) := by
  by_cases h : t.val % 8 = 0
  · rw [outsAt0_A m c t h]; dsimp only; rw [outA5]
  · rw [outsAt0_B m c t h]; dsimp only; rw [outB5]

theorem win6A (t : Fin cfg0.N) (h : t.val % 8 = 0) : (outsAt0 m c t.val t.isLt).2.2.1
    = k0_pay23 (F := Ideal) (k0_pay21 (k0_pay10 (F := Ideal))) (k0_pay22 (sB m c t) (cB m c t) (b3 m c t)) := by
  rw [outsAt0_A m c t h]; dsimp only; rw [outA6]

theorem win6B (t : Fin cfg0.N) (h : ¬ t.val % 8 = 0) (hp : t.val - 1 < cfg0.N) : (outsAt0 m c t.val t.isLt).2.2.1
    = k0_pay23 (F := Ideal) (k0_pay21 (outsAt0 m c (t.val - 1) hp).2.2.1) (k0_pay22 (sB m c t) (cB m c t) (b3 m c t)) := by
  rw [outsAt0_B m c t h]; dsimp only; rw [outB6]

theorem win7 (t : Fin cfg0.N) : (outsAt0 m c t.val t.isLt).2.2.2.1 = k0_pay27 (F := Ideal) (k0_pay18 (sB m c t) (cB m c t) (b3 m c t)) := by
  by_cases h : t.val % 8 = 0
  · rw [outsAt0_A m c t h]; dsimp only; rw [outA7]
  · rw [outsAt0_B m c t h]; dsimp only; rw [outB7]

theorem win8 (t : Fin cfg0.N) : (outsAt0 m c t.val t.isLt).2.2.2.2.1 = k0_pay24 (F := Ideal) (k0_pay18 (sB m c t) (cB m c t) (b3 m c t))
    (k0_pay19 (sB m c t) (cB m c t) (b3 m c t)) (fB m c) (k0_pay20 (sB m c t) (cB m c t) (b3 m c t) (fB m c)) := by
  by_cases h : t.val % 8 = 0
  · rw [outsAt0_A m c t h]; dsimp only; rw [outA8, freq0]
  · rw [outsAt0_B m c t h]; dsimp only; rw [outB8, carried_prev]

theorem win9 (t : Fin cfg0.N) : (outsAt0 m c t.val t.isLt).2.2.2.2.2.1 = cB m c t := by
  by_cases h : t.val % 8 = 0
  · rw [outsAt0_A m c t h]; dsimp only; rw [outA9]
  · rw [outsAt0_B m c t h]; dsimp only; rw [outB9]

theorem win10 (t : Fin cfg0.N) : (outsAt0 m c t.val t.isLt).2.2.2.2.2.2.1 = k0_pay1 (F := Ideal) (sB m c t) := by
  by_cases h : t.val % 8 = 0
  · rw [outsAt0_A m c t h]; dsimp only; rw [outA10]
  · rw [outsAt0_B m c t h]; dsimp only; rw [outB10]

/-- The logits of a block's row are those of its token. -/
theorem zBlk_at (t : Fin cfg0.N) (r : Fin 256) : zBlk (sB m c t) (cB m c t) (b3 m c t) r = Z (aX m c) (aN m c) (aW m c) (tok (pt t) r) := by
  have h1 : (fun k => b1 m c t (ix2 r k)) = xs (aX m c) (tok (pt t) r) := funext fun l => read1 m c t r l
  have h2 : (fun k => b2 m c t (ix2 (0 : Fin 1) k)) = ns (aN m c) := funext fun l => read2 m c t l
  have h3 : (fun (l : Fin 7168) (j : Fin 384) => b3 m c t (ix2 l j)) = ws (aW m c) := funext fun l => funext fun j => read3 m c t l j
  unfold Z
  rw [← h1, ← h2, ← h3]
  rfl

theorem code_at (t : Fin cfg0.N) (r : Fin 256) (l : Fin 7168) : cB m c t (ix2 r l) = code (xs (aX m c) (tok (pt t) r)) (ns (aN m c)) l := by
  have h1 : (fun k => b1 m c t (ix2 r k)) = xs (aX m c) (tok (pt t) r) := funext fun l => read1 m c t r l
  have h2 : (fun k => b2 m c t (ix2 (0 : Fin 1) k)) = ns (aN m c) := funext fun l => read2 m c t l
  rw [← h1, ← h2]
  rfl

theorem scale_at (t : Fin cfg0.N) (r : Fin 256) (l : Fin 128) : sB m c t (ix2 r l) = scale (xs (aX m c) (tok (pt t) r)) (ns (aN m c)) := by
  have h1 : (fun k => b1 m c t (ix2 r k)) = xs (aX m c) (tok (pt t) r) := funext fun l => read1 m c t r l
  have h2 : (fun k => b2 m c t (ix2 (0 : Fin 1) k)) = ns (aN m c) := funext fun l => read2 m c t l
  rw [← h1, ← h2]
  rfl

end Cert.KernelIdeal.Value

end
-- ==== Proof.KFinal.lean ====
/- The kernel's seven result arrays after the run. -/
module

public import proofs.«01_k».proof.Proof.KRead

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (c : Dev nD)

/-- An index of a block of 256 tokens is given by its last coordinate. -/
theorem ix3_block (y : S1x1x256.Idx) : y = ix3 (0 : Fin 1) (0 : Fin 1) (y 2 : Fin 256) := by
  blk_ext

/-- Likewise for a block of rows. -/
theorem ix2_rows (y : S256x384.Idx) : y = ix2 (y 0 : Fin 256) (y 1 : Fin 384) := by
  blk_ext

theorem ix2_codes (y : S256x7168.Idx) : y = ix2 (y 0 : Fin 256) (y 1 : Fin 7168) := by
  blk_ext

theorem ix2_row (y : S1x384.Idx) : y = ix2 (0 : Fin 1) (y 1 : Fin 384) := by
  blk_ext

/-! ### The results at an index given by its coordinates -/

section Coordinates

variable (X : Vec Ideal S2x1024x7168 .bf16) (N : Vec Ideal S7168 .f32) (W : Vec Ideal S7168x384 .bf16) (I : Vec Ideal S2x1024x8 .i32)

theorem auxR_at (a : Fin 8) (b : Fin 256) : auxR X N W I (ix3 a (0 : Fin 1) b) = auxOf (Z X N W (tok a b)) (freq (is I)) := rfl

theorem ztR_at (a : Fin 8) (b : Fin 256) : ztR X N W (ix3 a (0 : Fin 1) b) = ztOf (Z X N W (tok a b)) := rfl

theorem lseR_at (a : Fin 8) (b : Fin 256) : lseR X N W (ix3 a (0 : Fin 1) b) = lse (Z X N W (tok a b)) := rfl

theorem scaleR_at (a : Fin 8) (b : Fin 256) : scaleR X N (ix3 a (0 : Fin 1) b) = scale (xs X (tok a b)) (ns N) := rfl

theorem dlR_at (r : Fin 2048) (j : Fin 384) : dlR X N W I (ix2 r j) = dlOf (Z X N W r) (freq (is I)) j := rfl

theorem codeR_at (r : Fin 2048) (l : Fin 7168) : codeR X N (ix2 r l) = code (xs X r) (ns N) l := rfl

end Coordinates

/-- Two arrays agree at an index of a block once they agree at its coordinates. -/
theorem agree3 {f : Vec Ideal S1x1x256 .f32} {g : Vec Ideal S8x1x256 .f32} {a : Fin 8}
    (h : ∀ b : Fin 256, f (ix3 (0 : Fin 1) (0 : Fin 1) b) = g (ix3 a (0 : Fin 1) b))
    (y : S1x1x256.Idx) (i : S8x1x256.Idx) (e : i = ix3 a (0 : Fin 1) (y 2 : Fin 256)) : f y = g i :=
  (congrArg f (ix3_block y)).trans ((h (y 2)).trans (congrArg g e).symm)

theorem agreeRows {f : Vec Ideal S256x384 .f32} {g : Vec Ideal S2048x384 .f32} {a : Fin 8}
    (h : ∀ (b : Fin 256) (j : Fin 384), f (ix2 b j) = g (ix2 (tok a b) j))
    (y : S256x384.Idx) (i : S2048x384.Idx) (e : i = ix2 (tok a (y 0 : Fin 256)) (y 1 : Fin 384)) : f y = g i :=
  (congrArg f (ix2_rows y)).trans ((h (y 0) (y 1)).trans (congrArg g e).symm)

theorem agreeCodes {f : Vec Ideal S256x7168 .fp8e4m3} {g : Vec Ideal S2048x7168 .fp8e4m3} {a : Fin 8}
    (h : ∀ (b : Fin 256) (l : Fin 7168), f (ix2 b l) = g (ix2 (tok a b) l))
    (y : S256x7168.Idx) (i : S2048x7168.Idx) (e : i = ix2 (tok a (y 0 : Fin 256)) (y 1 : Fin 7168)) : f y = g i :=
  (congrArg f (ix2_codes y)).trans ((h (y 0) (y 1)).trans (congrArg g e).symm)

/-- The load-balancing losses stored at a point. -/
theorem point4 (t : Fin cfg0.N) (b : Fin 256) : k0_pay25 (F := Ideal) (k0_pay20 (sB m c t) (cB m c t) (b3 m c t) (fB m c)) (ix3 (0 : Fin 1) (0 : Fin 1) b)
    = auxOf (Z (aX m c) (aN m c) (aW m c) (tok (pt t) b)) (freq (is (aI m c))) := by
  rw [pay25_at, zBlk_at]
  rfl

theorem point5 (t : Fin cfg0.N) (b : Fin 256) : k0_pay26 (F := Ideal) (k0_pay18 (sB m c t) (cB m c t) (b3 m c t)) (ix3 (0 : Fin 1) (0 : Fin 1) b)
    = ztOf (Z (aX m c) (aN m c) (aW m c) (tok (pt t) b)) := by
  rw [pay26_at, zBlk_at]

theorem point7 (t : Fin cfg0.N) (b : Fin 256) : k0_pay27 (F := Ideal) (k0_pay18 (sB m c t) (cB m c t) (b3 m c t)) (ix3 (0 : Fin 1) (0 : Fin 1) b)
    = lse (Z (aX m c) (aN m c) (aW m c) (tok (pt t) b)) := by
  rw [pay27_at, zBlk_at]

theorem point8 (t : Fin cfg0.N) (b : Fin 256) (j : Fin 384) : k0_pay24 (F := Ideal) (k0_pay18 (sB m c t) (cB m c t) (b3 m c t))
    (k0_pay19 (sB m c t) (cB m c t) (b3 m c t)) (fB m c) (k0_pay20 (sB m c t) (cB m c t) (b3 m c t) (fB m c)) (ix2 b j)
    = dlOf (Z (aX m c) (aN m c) (aW m c) (tok (pt t) b)) (freq (is (aI m c))) j := by
  rw [pay24_at, zBlk_at]
  rfl

theorem point10 (t : Fin cfg0.N) (b : Fin 256) : k0_pay1 (F := Ideal) (sB m c t) (ix3 (0 : Fin 1) (0 : Fin 1) b)
    = scale (xs (aX m c) (tok (pt t) b)) (ns (aN m c)) := by
  rw [pay1_at, scale_at]

/-- The load-balancing losses after the run. -/
theorem final4 : (dats m 0 c).arrAt 4 cfg0.N = auxR (aX m c) (aN m c) (aW m c) (aI m c) := by
  refine (dats m 0 c).arrAt_eq_of_covers 4 _ (by decide +kernel) fun t hf y => ?_
  blk_simp
  rw [after0_4, win4]
  have e : (win0_4.blk t).view.emb y = ix3 (pt t) (0 : Fin 1) (y 2 : Fin 256) := by
    unfold pt
    blk_ext [idx t]
  exact agree3 (f := k0_pay25 (F := Ideal) (k0_pay20 (sB m c t) (cB m c t) (b3 m c t) (fB m c))) (g := auxR (aX m c) (aN m c) (aW m c) (aI m c)) (a := pt t)
    (fun b => (point4 m c t b).trans (auxR_at (aX m c) (aN m c) (aW m c) (aI m c) (pt t) b).symm) y _ e

/-- The normaliser losses after the run. -/
theorem final5 : (dats m 0 c).arrAt 5 cfg0.N = ztR (aX m c) (aN m c) (aW m c) := by
  refine (dats m 0 c).arrAt_eq_of_covers 5 _ (by decide +kernel) fun t hf y => ?_
  blk_simp
  rw [after0_5, win5]
  have e : (win0_5.blk t).view.emb y = ix3 (pt t) (0 : Fin 1) (y 2 : Fin 256) := by
    unfold pt
    blk_ext [idx t]
  exact agree3 (f := k0_pay26 (F := Ideal) (k0_pay18 (sB m c t) (cB m c t) (b3 m c t))) (g := ztR (aX m c) (aN m c) (aW m c)) (a := pt t)
    (fun b => (point5 m c t b).trans (ztR_at (aX m c) (aN m c) (aW m c) (pt t) b).symm) y _ e

/-- The normalisers' logarithms after the run. -/
theorem final7 : (dats m 0 c).arrAt 7 cfg0.N = lseR (aX m c) (aN m c) (aW m c) := by
  refine (dats m 0 c).arrAt_eq_of_covers 7 _ (by decide +kernel) fun t hf y => ?_
  blk_simp
  rw [after0_7, win7]
  have e : (win0_7.blk t).view.emb y = ix3 (pt t) (0 : Fin 1) (y 2 : Fin 256) := by
    unfold pt
    blk_ext [idx t]
  exact agree3 (f := k0_pay27 (F := Ideal) (k0_pay18 (sB m c t) (cB m c t) (b3 m c t))) (g := lseR (aX m c) (aN m c) (aW m c)) (a := pt t)
    (fun b => (point7 m c t b).trans (lseR_at (aX m c) (aN m c) (aW m c) (pt t) b).symm) y _ e

/-- The scales after the run. -/
theorem final10 : (dats m 0 c).arrAt 10 cfg0.N = scaleR (aX m c) (aN m c) := by
  refine (dats m 0 c).arrAt_eq_of_covers 10 _ (by decide +kernel) fun t hf y => ?_
  blk_simp
  rw [after0_10, win10]
  have e : (win0_10.blk t).view.emb y = ix3 (pt t) (0 : Fin 1) (y 2 : Fin 256) := by
    unfold pt
    blk_ext [idx t]
  exact agree3 (f := k0_pay1 (F := Ideal) (sB m c t)) (g := scaleR (aX m c) (aN m c)) (a := pt t)
    (fun b => (point10 m c t b).trans (scaleR_at (aX m c) (aN m c) (pt t) b).symm) y _ e

/-- The gradient after the run. -/
theorem final8 : (dats m 0 c).arrAt 8 cfg0.N = dlR (aX m c) (aN m c) (aW m c) (aI m c) := by
  refine (dats m 0 c).arrAt_eq_of_covers 8 _ (by decide +kernel) fun t hf y => ?_
  blk_simp
  rw [after0_8, win8]
  have e : (win0_8.blk t).view.emb y = ix2 (tok (pt t) (y 0 : Fin 256)) (y 1 : Fin 384) := by
    unfold tok pt
    blk_ext [idx t]
  exact agreeRows (f := k0_pay24 (F := Ideal) (k0_pay18 (sB m c t) (cB m c t) (b3 m c t)) (k0_pay19 (sB m c t) (cB m c t) (b3 m c t)) (fB m c) (k0_pay20 (sB m c t) (cB m c t) (b3 m c t) (fB m c)))
    (g := dlR (aX m c) (aN m c) (aW m c) (aI m c)) (a := pt t) (fun b j => (point8 m c t b j).trans (dlR_at (aX m c) (aN m c) (aW m c) (aI m c) (tok (pt t) b) j).symm) y _ e

/-- The codes after the run. -/
theorem final9 : (dats m 0 c).arrAt 9 cfg0.N = codeR (aX m c) (aN m c) := by
  refine (dats m 0 c).arrAt_eq_of_covers 9 _ (by decide +kernel) fun t hf y => ?_
  blk_simp
  rw [after0_9, win9]
  have e : (win0_9.blk t).view.emb y = ix2 (tok (pt t) (y 0 : Fin 256)) (y 1 : Fin 7168) := by
    unfold tok pt
    blk_ext [idx t]
  exact agreeCodes (f := cB m c t) (g := codeR (aX m c) (aN m c)) (a := pt t)
    (fun b l => (code_at m c t b l).trans (codeR_at (aX m c) (aN m c) (tok (pt t) b) l).symm) y _ e

/-- A block's share of the mean probability of expert `j`. -/
def part (t : Fin cfg0.N) (j : Fin 384) : EReal :=
  Ideal.div (∑ x : Fin 256, prob (Z (aX m c) (aN m c) (aW m c) (tok (pt t) x)) j) (Ideal.ofBits .f32 0x45000000#32)

/-- A point adds its block's share to a row. -/
theorem point6 (t : Fin cfg0.N) (p : Vec Ideal S1x384 .f32) (j : Fin 384) :
    k0_pay23 (F := Ideal) (k0_pay21 p) (k0_pay22 (sB m c t) (cB m c t) (b3 m c t)) (ix2 (0 : Fin 1) j) = p (ix2 (0 : Fin 1) j) + part m c t j := by
  rw [pay23_at]
  simp only [zBlk_at]
  rfl

/-- The last point leaves the sum of the shares. -/
theorem acc6 (j : Fin 384) : (outsAt0 m c t0_7.val t0_7.isLt).2.2.1 (ix2 (0 : Fin 1) j) = ∑ t : Fin cfg0.N, part m c t j := by
  refine (Pipeline.eq_sum_fin_of_reset_step_apply_last (fun n h (j : Fin 384) => ((outsAt0 m c n h).2.2.1 (ix2 (0 : Fin 1) j) : EReal)) 8 (fun _ => 0) (part m c)
    (fun t h j => ?_) (fun t h j => ?_) (le_of_eq N_0) t0_7 rfl j).trans (zero_add _)
  · show (outsAt0 m c t.val t.isLt).2.2.1 (ix2 (0 : Fin 1) j) = _
    rw [win6A m c t h, point6, pay10_at]
  · show (outsAt0 m c t.val t.isLt).2.2.1 (ix2 (0 : Fin 1) j) = _
    rw [win6B m c t h, point6]

/-- The mean probabilities after the run. -/
theorem final6 (hW : ∀ l j, ∃ r : ℝ, ws (aW m c) l j = r) : (dats m 0 c).arrAt 6 cfg0.N = pR (aX m c) (aN m c) (aW m c) := by
  refine (dats m 0 c).arrAt_eq_of_after_last 6 t0_7 (by decide +kernel) _ fun j => ?_
  blk_simp
  rw [after0_6]
  refine (congrArg _ (ix2_row j)).trans ((acc6 m c (j 1)).trans ?_)
  refine Eq.trans ?_ (pOf_blocks (Z (aX m c) (aN m c) (aW m c)) (Z_finite _ _ _ hW) (j 1))
  exact Fintype.sum_equiv (finCongr N_0) _ _ fun t => rfl

end Cert.KernelIdeal.Value

end
-- ==== Proof.RPay.lean ====
/- The values the reference's body stores, read at an index, as the functions of Rows.lean. -/
module

public import proofs.«01_k».proof.Proof.Gen.ReferenceIdeal.Skeleton
public import Idealize.ShloMosaic.Lib.Pointwise
public import proofs.«01_k».proof.Proof.Rows

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec

/-- A maximum over the second axis, at a row: the maximum over that row. -/
theorem max2 (n m : ℕ) (v : FVec Ideal ⟨2,![n,m]⟩ .f32) (h : Shape.Reduces ⟨2,![n,m]⟩ [1] ⟨1,![n]⟩) (r : Fin n) :
    multiReduction (F := Ideal) .maximumf [1] ⟨1,![n]⟩ v 0xFF800000#32 h (.inl rfl) rfl (ix1 r)
      = Finset.univ.fold max (Ideal.ofBits .f32 0xFF800000#32) fun x => v (ix2 r x) := by pointwise

/-- The normalised rows. -/
theorem pay1_at (x : Vec Ideal S2048x7168 .bf16) (n : Vec Ideal S1x7168 .f32) (r : Fin 2048) (l : Fin 7168) :
    k0_pay1 (F := Ideal) x n (ix2 r l) = hRow (fun k => x (ix2 r k)) (fun k => n (ix2 0 k)) l := by
  unfold hRow
  pointwise [k0_pay1]

/-- The largest absolute value of each row. -/
def mxV (v : FVec Ideal S2048x7168 .f32) : FVec Ideal S2048 .f32 :=
  multiReduction .maximumf [1] S2048 (absf v) 0xFF800000#32 reduces_S2048x7168_S2048 (.inl rfl) rfl

/-- The largest absolute value of each row by the reciprocal of 448, as a column. -/
def yV (u : FVec Ideal S2048 .f32) : FVec Ideal S2048x1 .f32 :=
  mulf (shapeCast S2048x1 u shapeCasts_S2048_S2048x1) (broadcast S2048x1 (Scalar.ofBits .f32 0x3B124925#32))

/-- The least candidate exponent whose power of two exceeds the value. -/
def leastV (y : FVec Ideal S2048x1 .f32) : FVec Ideal S2048x1 .f32 :=
  have v22 : IVec S2048x246 32 := iota .tc S2048x246 32 [1] iota_S2048x246_d1_w32
  have v24 : IVec S2048x246 32 := subi v22 (broadcast S2048x246 125#32)
  have v25 : FVec Ideal S2048x246 .f32 := sitofp .f32 v24
  have v28 : IVec S2048x246 1 := cmpf .olt (broadcastTo S2048x246 y broadcasts_S2048x1_S2048x246) (exp2 v25)
  have v31 : FVec Ideal S2048x246 .f32 := select v28 (sitofp .f32 v24) (broadcast S2048x246 (Scalar.ofBits .f32 0x42F00000#32))
  shapeCast S2048x1 (multiReduction .minimumf [1] S2048 v31 0x7F800000#32 reduces_S2048x246_S2048 (.inl rfl) rfl) shapeCasts_S2048_S2048x1

/-- The exponent: zero for a subnormal or an infinite value, the least candidate otherwise. -/
def eV (y l : FVec Ideal S2048x1 .f32) : FVec Ideal S2048x1 .f32 :=
  select (ori (cmpf .olt y (broadcast S2048x1 (Scalar.ofBits .f32 0x00800000#32)))
    (cmpf .oeq y (broadcast S2048x1 (Scalar.ofBits .f32 0x7F800000#32)))) (broadcast S2048x1 (Scalar.ofBits .f32 0x00000000#32)) l

/-- The exponents the body computes, in those parts. -/
theorem pay2_eq (x : Vec Ideal S2048x7168 .bf16) (n : Vec Ideal S1x7168 .f32) :
    k0_pay2 (F := Ideal) x n = eV (yV (mxV (k0_pay1 x n))) (leastV (yV (mxV (k0_pay1 x n)))) := rfl

theorem mxV_at (v : FVec Ideal S2048x7168 .f32) (r : Fin 2048) :
    mxV v (ix1 r) = Finset.univ.fold max (Ideal.ofBits .f32 0xFF800000#32) fun x => FloatOps.absf (F := Ideal) (φ := .f32) (v (ix2 r x)) :=
  max2 2048 7168 (absf v) reduces_S2048x7168_S2048 r

theorem yV_at (u : FVec Ideal S2048 .f32) (r : Fin 2048) : yV u (ix2 r (0 : Fin 1)) = u (ix1 r) * Ideal.ofBits .f32 0x3B124925#32 := by
  pointwise [yV]

/-- The exponent at a row is the exponent of the row's value. -/
theorem eV_at (y : FVec Ideal S2048x1 .f32) (r : Fin 2048) :
    eV y (leastV y) (ix2 r (0 : Fin 1)) = (((ex (y (ix2 r (0 : Fin 1))) : ℤ) : ℝ) : EReal) := by
  rw [← ref_exponent]
  pointwise [eV, leastV]

/-- The exponents of the rows. -/
theorem pay2_at (x : Vec Ideal S2048x7168 .bf16) (n : Vec Ideal S1x7168 .f32) (r : Fin 2048) :
    k0_pay2 (F := Ideal) x n (ix2 r (0 : Fin 1)) = (((ex (yRow (fun k => x (ix2 r k)) (fun k => n (ix2 0 k))) : ℤ) : ℝ) : EReal) := by
  rw [pay2_eq, eV_at, yV_at, mxV_at]
  simp only [pay1_at]
  rfl

/-- Two to a number, on the extended reals. -/
theorem exp2_float (y : EReal) : (FloatOps.exp2 (F := Ideal) (φ := .f32) y : EReal) = Ideal.exp2 y := rfl

/-- Two to the entries of a column. -/
theorem exp2_col (v : FVec Ideal S2048x1 .f32) (r : Fin 2048) :
    (exp2 v : FVec Ideal S2048x1 .f32) (ix2 r (0 : Fin 1)) = Ideal.exp2 (v (ix2 r (0 : Fin 1))) := rfl

/-- Two to the given exponents. -/
theorem pay3_word (x : Vec Ideal S2048x7168 .bf16) (n : Vec Ideal S1x7168 .f32) (r : Fin 2048) :
    k0_pay3 (F := Ideal) x n (ix2 r (0 : Fin 1)) = Ideal.exp2 (k0_pay2 (F := Ideal) x n (ix2 r (0 : Fin 1))) := by
  unfold k0_pay3
  exact exp2_col _ r

/-- The scales of the rows. -/
theorem pay3_at (x : Vec Ideal S2048x7168 .bf16) (n : Vec Ideal S1x7168 .f32) (r : Fin 2048) :
    k0_pay3 (F := Ideal) x n (ix2 r (0 : Fin 1)) = scale (fun k => x (ix2 r k)) (fun k => n (ix2 0 k)) := by
  rw [pay3_word, pay2_at, exp2_int]
  rfl

/-- Zero less the entries of a column. -/
theorem neg_col (v : FVec Ideal S2048x1 .f32) (r : Fin 2048) :
    (subf (broadcast S2048x1 (Scalar.ofBits .f32 0x00000000#32)) v : FVec Ideal S2048x1 .f32) (ix2 r (0 : Fin 1))
      = Ideal.ofBits .f32 0x00000000#32 - v (ix2 r (0 : Fin 1)) := rfl

/-- The negated exponents. -/
theorem pay4_word (x : Vec Ideal S2048x7168 .bf16) (n : Vec Ideal S1x7168 .f32) (r : Fin 2048) :
    k0_pay4 (F := Ideal) x n (ix2 r (0 : Fin 1)) = Ideal.ofBits .f32 0x00000000#32 - k0_pay2 (F := Ideal) x n (ix2 r (0 : Fin 1)) := by
  unfold k0_pay4
  exact neg_col _ r

theorem pay4_at (x : Vec Ideal S2048x7168 .bf16) (n : Vec Ideal S1x7168 .f32) (r : Fin 2048) :
    k0_pay4 (F := Ideal) x n (ix2 r (0 : Fin 1)) = (((-ex (yRow (fun k => x (ix2 r k)) (fun k => n (ix2 0 k))) : ℤ) : ℝ) : EReal) := by
  rw [pay4_word, pay2_at, show Ideal.ofBits .f32 0x00000000#32 = ((0 : ℝ) : EReal) from Ideal.ofBits_zero .f32, ← EReal.coe_sub]
  push_cast
  rw [zero_sub]

/-- The codes from the normalised rows and the negated exponents. -/
theorem pay5_word (h : FVec Ideal S2048x7168 .f32) (e : FVec Ideal S2048x1 .f32) (r : Fin 2048) (l : Fin 7168) :
    k0_pay5 (F := Ideal) h e (ix2 r l) = min (Ideal.ofBits .f32 0x43E00000#32) (max (Ideal.ofBits .f32 0xC3E00000#32)
      (h (ix2 r l) * Ideal.exp2 (e (ix2 r (0 : Fin 1))))) := by
  simp only [← exp2_float]
  pointwise [k0_pay5]

/-- The codes of the rows. -/
theorem pay5_at (x : Vec Ideal S2048x7168 .bf16) (n : Vec Ideal S1x7168 .f32) (r : Fin 2048) (l : Fin 7168) :
    k0_pay5 (F := Ideal) (k0_pay1 x n) (k0_pay4 x n) (ix2 r l) = code (fun k => x (ix2 r k)) (fun k => n (ix2 0 k)) l := by
  rw [pay5_word, pay1_at, pay4_at, exp2_int]
  rfl

/-- The frequencies: the count of the choices that are the expert, over the number of choices. -/
theorem pay6_at (ids : Vec Ideal S16384x1 .i32) (j : Fin 384) :
    k0_pay6 (F := Ideal) ids (ix2 (0 : Fin 1) j)
      = Ideal.div (FloatOps.sitofp (F := Ideal) FTy.f32 (Finset.fold IntOp.addi (0#32)
          (fun x => BitVec.setWidth 32 (IntOp.cmpi CmpIPredicate.eq (ids (ix2 x (0 : Fin 1))) (BitVec.ofNat 32 j.val))) Finset.univ))
          (Ideal.ofBits .f32 0x46800000#32) := by
  pointwise [k0_pay6]

/-- The logits of the rows. -/
theorem pay7_word (h : FVec Ideal S2048x7168 .f32) (s e : FVec Ideal S2048x1 .f32) (w : Vec Ideal S7168x384 .bf16) (r : Fin 2048) (j : Fin 384) :
    k0_pay7 (F := Ideal) h s e w (ix2 r j) = (∑ l, k0_pay5 (F := Ideal) h e (ix2 r l) * w (ix2 l j)) * s (ix2 r (0 : Fin 1)) := by
  pointwise [k0_pay7]

theorem pay7_at (x : Vec Ideal S2048x7168 .bf16) (n : Vec Ideal S1x7168 .f32) (w : Vec Ideal S7168x384 .bf16) (r : Fin 2048) (j : Fin 384) :
    k0_pay7 (F := Ideal) (k0_pay1 x n) (k0_pay3 x n) (k0_pay4 x n) w (ix2 r j)
      = zRow (fun k => x (ix2 r k)) (fun k => n (ix2 0 k)) (fun l j => w (ix2 l j)) j := by
  rw [pay7_word, pay3_at]
  simp only [pay5_at]
  rfl

variable (h : FVec Ideal S2048x7168 .f32) (s e : FVec Ideal S2048x1 .f32) (w : Vec Ideal S7168x384 .bf16)

/-- The log-sum-exp of a row whose logits are real numbers. -/
theorem pay8_at (r : Fin 2048) (z : Fin 384 → EReal) (hz : ∀ j, k0_pay7 (F := Ideal) h s e w (ix2 r j) = z j) (hr : ∀ j, ∃ v : ℝ, z j = v) :
    k0_pay8 (F := Ideal) h s e w (ix2 r (0 : Fin 1)) = lse z := by
  obtain rfl : (fun j => k0_pay7 (F := Ideal) h s e w (ix2 r j)) = z := funext hz
  rw [← guarded_lse (by decide) _ hr, ← guarded_top (by decide) _ hr]
  pointwise [k0_pay8]

/-- The probabilities of a row whose logits are real numbers. -/
theorem pay9_at (r : Fin 2048) (z : Fin 384 → EReal) (hz : ∀ j, k0_pay7 (F := Ideal) h s e w (ix2 r j) = z j) (hr : ∀ j, ∃ v : ℝ, z j = v)
    (j : Fin 384) : k0_pay9 (F := Ideal) h s e w (ix2 r j) = prob z j := by
  rw [← (exp_sub_lse (by decide) z hr j).1, ← pay8_at h s e w r z hz hr, ← hz]
  pointwise [k0_pay9]

/-- The mean of the probabilities over the rows. -/
theorem pay11_at (j : Fin 384) : k0_pay11 (F := Ideal) (k0_pay10 h s e w) (ix2 (0 : Fin 1) j)
    = Ideal.div (∑ r, k0_pay9 (F := Ideal) h s e w (ix2 r j)) (Ideal.ofBits .f32 0x45000000#32) := by
  pointwise [k0_pay11, k0_pay10]

/-- The expected frequency of a row. -/
theorem pay12_at (f : FVec Ideal S1x384 .f32) (p : FVec Ideal S2048x384 .f32) (r : Fin 2048) :
    k0_pay12 (F := Ideal) f p (ix2 r (0 : Fin 1)) = ∑ j, p (ix2 r j) * f (ix2 (0 : Fin 1) j) := by
  pointwise [k0_pay12]

/-- The row of entry `(a, 0, b)` of an array of eight blocks of 256. -/
def rowOf (a : Fin 8) (b : Fin 256) : Fin 2048 := ⟨a.val * 256 + b.val, by omega⟩

theorem pay13_at (f : FVec Ideal S1x384 .f32) (p : FVec Ideal S2048x384 .f32) (a : Fin 8) (b : Fin 256) :
    k0_pay13 (F := Ideal) f p (ix3 a (0 : Fin 1) b)
      = Ideal.ofBits .f32 0x3AF5C28F#32 * k0_pay12 (F := Ideal) f p (ix2 (rowOf a b) (0 : Fin 1)) := by
  unfold rowOf
  pointwise [k0_pay13]

theorem pay14_at (v : FVec Ideal S2048x1 .f32) (a : Fin 8) (b : Fin 256) :
    k0_pay14 (F := Ideal) v (ix3 a (0 : Fin 1) b)
      = Ideal.ofBits .f32 0x3503126F#32 * (v (ix2 (rowOf a b) (0 : Fin 1)) * v (ix2 (rowOf a b) (0 : Fin 1))) := by
  unfold rowOf
  pointwise [k0_pay14]

theorem pay15_at (v : FVec Ideal S2048x1 .f32) (a : Fin 8) (b : Fin 256) :
    k0_pay15 (F := Ideal) v (ix3 a (0 : Fin 1) b) = v (ix2 (rowOf a b) (0 : Fin 1)) := by
  unfold rowOf
  pointwise [k0_pay15]

theorem pay17_at (v : FVec Ideal S2048x1 .f32) (a : Fin 8) (b : Fin 256) :
    k0_pay17 (F := Ideal) v (ix3 a (0 : Fin 1) b) = v (ix2 (rowOf a b) (0 : Fin 1)) := by
  unfold rowOf
  pointwise [k0_pay17]

theorem pay16_at (f : FVec Ideal S1x384 .f32) (v : FVec Ideal S2048x1 .f32) (p : FVec Ideal S2048x384 .f32) (r : Fin 2048) (j : Fin 384) :
    k0_pay16 (F := Ideal) f v p (ix2 r j) = p (ix2 r j) * (Ideal.ofBits .f32 0x3AF5C28F#32
      * (f (ix2 (0 : Fin 1) j) - k0_pay12 (F := Ideal) f p (ix2 r (0 : Fin 1))) + Ideal.ofBits .f32 0x3583126F#32 * v (ix2 r (0 : Fin 1))) := by
  pointwise [k0_pay16]

end Cert.ReferenceIdeal.Value

end
-- ==== Proof.RRead.lean ====
/- The reference's seven result arrays after the run. -/
module

public import proofs.«01_k».proof.Proof.Gen.ReferenceIdeal.Frame
public import proofs.«01_k».proof.Proof.RPay
public import proofs.«01_k».proof.Proof.Results
public import Idealize.ShloMosaic.Lib.Pipeline.ValueKit
public import Idealize.ShloMosaic.Lib.Pointwise

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen Cert.Spec

variable (m : (ℓ : Loc nD τ sig) → Buf (Elt Ideal) ℓ) (c : Dev nD)

/-- The windows' index maps. -/
theorem idx : ∀ t : Fin cfg0.N, win0_0.index t = ![0, 0] ∧ win0_1.index t = ![0, 0] ∧ win0_2.index t = ![0, 0] ∧ win0_3.index t = ![0, 0]
    ∧ win0_4.index t = ![0, 0, 0] ∧ win0_5.index t = ![0, 0, 0] ∧ win0_6.index t = ![0, 0] ∧ win0_7.index t = ![0, 0, 0]
    ∧ win0_8.index t = ![0, 0] ∧ win0_9.index t = ![0, 0] ∧ win0_10.index t = ![0, 0, 0] :=
  (by decide +kernel : ∀ t : Fin grid0.N, _)

/-- The argument arrays. -/
abbrev aX : Vec Ideal S2x1024x7168 .bf16 := m ((c : Thread nD τ).loc main_arg0)
abbrev aN : Vec Ideal S7168 .f32 := m ((c : Thread nD τ).loc main_arg1)
abbrev aW : Vec Ideal S7168x384 .bf16 := m ((c : Thread nD τ).loc main_arg2)
abbrev aI : Vec Ideal S2x1024x8 .i32 := m ((c : Thread nD τ).loc main_arg3)

/-- The four operands of the body. -/
abbrev b0 (t : Fin cfg0.N) : Vec Ideal S2048x7168 .bf16 := iblk m c 0 t
abbrev b1 (t : Fin cfg0.N) : Vec Ideal S1x7168 .f32 := iblk m c 1 t
abbrev b2 (t : Fin cfg0.N) : Vec Ideal S7168x384 .bf16 := iblk m c 2 t
abbrev b3 (t : Fin cfg0.N) : Vec Ideal S16384x1 .i32 := iblk m c 3 t

theorem read0 (t : Fin cfg0.N) (r : Fin 2048) (l : Fin 7168) : b0 m c t (ix2 r l) = xs (aX m c) r l := by
  unfold b0 xs
  blk_simp [iblk, idx t]
  entry_read
  pointwise
  blk_ext [idx t]

theorem read1 (t : Fin cfg0.N) (l : Fin 7168) : b1 m c t (ix2 (0 : Fin 1) l) = ns (aN m c) l := by
  unfold b1 ns
  blk_simp [iblk, idx t]
  entry_read
  pointwise
  blk_ext [idx t]

theorem read2 (t : Fin cfg0.N) (l : Fin 7168) (j : Fin 384) : b2 m c t (ix2 l j) = ws (aW m c) l j := by
  unfold b2 ws
  blk_ext [iblk, V, idx t]

theorem read3 (t : Fin cfg0.N) (r : Fin 2048) (k : Fin 8) (h : r.val * 8 + k.val < 16384) :
    b3 m c t (ix2 (⟨r.val * 8 + k.val, h⟩ : Fin 16384) (0 : Fin 1)) = is (aI m c) r k := by
  unfold b3 is
  blk_simp [iblk, idx t]
  entry_read
  pointwise
  blk_ext [idx t]

/-! The body's values over variables. -/

variable (x : Vec Ideal S2048x7168 .bf16) (n : Vec Ideal S1x7168 .f32) (w : Vec Ideal S7168x384 .bf16) (ids : Vec Ideal S16384x1 .i32)
  (X : Vec Ideal S2x1024x7168 .bf16) (N : Vec Ideal S7168 .f32) (W : Vec Ideal S7168x384 .bf16) (I : Vec Ideal S2x1024x8 .i32)

/-- The operands hold the arguments. -/
structure Holds : Prop where
  hx : ∀ r l, x (ix2 r l) = xs X r l
  hn : ∀ l, n (ix2 (0 : Fin 1) l) = ns N l
  hw : ∀ l j, w (ix2 l j) = ws W l j
  hi : ∀ (r : Fin 2048) (k : Fin 8) (h : r.val * 8 + k.val < 16384), ids (ix2 (⟨r.val * 8 + k.val, h⟩ : Fin 16384) (0 : Fin 1)) = is I r k

variable {x n w ids X N W I}
variable (h : Holds x n w ids X N W I) (hW : ∀ l j, ∃ r : ℝ, ws W l j = r)
include h

theorem row_x (r : Fin 2048) : (fun k => x (ix2 r k)) = xs X r := funext fun l => h.hx r l
theorem row_n : (fun k => n (ix2 (0 : Fin 1) k)) = ns N := funext fun l => h.hn l
theorem rows_w : (fun (l : Fin 7168) (j : Fin 384) => w (ix2 l j)) = ws W := funext fun l => funext fun j => h.hw l j

/-- The codes. -/
theorem code_of (r : Fin 2048) (l : Fin 7168) : k0_pay5 (F := Ideal) (k0_pay1 x n) (k0_pay4 x n) (ix2 r l) = code (xs X r) (ns N) l := by
  rw [pay5_at, row_x h, row_n h]

/-- The scales. -/
theorem scale_of (r : Fin 2048) : k0_pay3 (F := Ideal) x n (ix2 r (0 : Fin 1)) = scale (xs X r) (ns N) := by
  rw [pay3_at, row_x h, row_n h]

/-- The frequencies. -/
theorem freq_of (j : Fin 384) : k0_pay6 (F := Ideal) ids (ix2 (0 : Fin 1) j) = freq (is I) j := by
  rw [pay6_at, word_count (fun k => ids (ix2 k (0 : Fin 1))) (BitVec.ofNat 32 j.val), flat_total (is I) _ (fun r k => h.hi r k _) j]
  rfl

/-- The logits. -/
theorem z_of (r : Fin 2048) (j : Fin 384) : k0_pay7 (F := Ideal) (k0_pay1 x n) (k0_pay3 x n) (k0_pay4 x n) w (ix2 r j) = Z X N W r j := by
  rw [pay7_at, row_x h, row_n h, rows_w h]
  rfl

include hW

/-- The logarithm of the normaliser. -/
theorem lse_of (r : Fin 2048) : k0_pay8 (F := Ideal) (k0_pay1 x n) (k0_pay3 x n) (k0_pay4 x n) w (ix2 r (0 : Fin 1)) = lse (Z X N W r) :=
  pay8_at _ _ _ _ r _ (z_of h r) (Z_finite X N W hW r)

/-- The probabilities. -/
theorem prob_of (r : Fin 2048) (j : Fin 384) : k0_pay9 (F := Ideal) (k0_pay1 x n) (k0_pay3 x n) (k0_pay4 x n) w (ix2 r j) = prob (Z X N W r) j :=
  pay9_at _ _ _ _ r _ (z_of h r) (Z_finite X N W hW r) j

/-- The expected frequencies. -/
theorem g_of (r : Fin 2048) : k0_pay12 (F := Ideal) (k0_pay6 ids) (k0_pay9 (k0_pay1 x n) (k0_pay3 x n) (k0_pay4 x n) w) (ix2 r (0 : Fin 1))
    = gRow (Z X N W r) (freq (is I)) := by
  rw [pay12_at]
  simp only [prob_of h hW, freq_of h]
  rfl

/-- The mean probabilities. -/
theorem p_of (j : Fin 384) : k0_pay11 (F := Ideal) (k0_pay10 (k0_pay1 x n) (k0_pay3 x n) (k0_pay4 x n) w) (ix2 (0 : Fin 1) j) = pOf (Z X N W) j := by
  rw [pay11_at]
  simp only [prob_of h hW]
  rfl

/-- The load-balancing losses. -/
theorem aux_of (a : Fin 8) (b : Fin 256) : k0_pay13 (F := Ideal) (k0_pay6 ids) (k0_pay9 (k0_pay1 x n) (k0_pay3 x n) (k0_pay4 x n) w) (ix3 a (0 : Fin 1) b)
    = auxOf (Z X N W (tok a b)) (freq (is I)) := by
  rw [pay13_at, g_of h hW]
  rfl

/-- The normaliser losses. -/
theorem zt_of (a : Fin 8) (b : Fin 256) : k0_pay14 (F := Ideal) (k0_pay8 (k0_pay1 x n) (k0_pay3 x n) (k0_pay4 x n) w) (ix3 a (0 : Fin 1) b)
    = ztOf (Z X N W (tok a b)) := by
  rw [pay14_at, lse_of h hW]
  rfl

/-- The gradient. -/
theorem dl_of (r : Fin 2048) (j : Fin 384) : k0_pay16 (F := Ideal) (k0_pay6 ids) (k0_pay8 (k0_pay1 x n) (k0_pay3 x n) (k0_pay4 x n) w)
    (k0_pay9 (k0_pay1 x n) (k0_pay3 x n) (k0_pay4 x n) w) (ix2 r j) = dlOf (Z X N W r) (freq (is I)) j := by
  rw [pay16_at, g_of h hW, lse_of h hW, prob_of h hW, freq_of h]
  rfl

end Cert.ReferenceIdeal.Value

end
-- ==== Proof.RFinal.lean ====
/- The reference's seven result arrays after the run, as the functions of Results.lean. -/
module

public import proofs.«01_k».proof.Proof.RRead

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen Cert.Spec

/-! ### What the body stores -/

section Stores

variable (x : Vec Ideal S2048x7168 .bf16) (n : Vec Ideal S1x7168 .f32) (w : Vec Ideal S7168x384 .bf16) (ids : Vec Ideal S16384x1 .i32)

/-- A load of a whole buffer is its contents. -/
theorem ld_whole {S : Shape} {e : EltTy} {off : Fin S.rank → Nat} (inb : ∀ a, off a + S.size a ≤ S.size a) (v : Vec Ideal S e)
    (h : ∀ a, off a = 0) : View.ld v (Rect.unit off S.size inb) = v := View.ld_unit_lit inb v h

theorem p18 : k0_pay18 (F := Ideal) x n w ids = k0_pay1 x n := by
  unfold k0_pay18
  rw [ld_whole _ x (by decide), ld_whole _ n (by decide)]

theorem p19 : k0_pay19 (F := Ideal) x n w ids = k0_pay3 x n := by
  unfold k0_pay19
  rw [ld_whole _ x (by decide), ld_whole _ n (by decide)]

theorem p20 : k0_pay20 (F := Ideal) x n w ids = k0_pay4 x n := by
  unfold k0_pay20
  rw [ld_whole _ x (by decide), ld_whole _ n (by decide)]

theorem p21 : k0_pay21 (F := Ideal) x n w ids = k0_pay6 ids := by
  unfold k0_pay21
  rw [ld_whole _ ids (by decide)]

theorem p22 : k0_pay22 (F := Ideal) x n w ids = k0_pay8 (k0_pay1 x n) (k0_pay3 x n) (k0_pay4 x n) w := by
  unfold k0_pay22
  rw [p18, p19, p20, ld_whole _ w (by decide)]

theorem p23 : k0_pay23 (F := Ideal) x n w ids = k0_pay9 (k0_pay1 x n) (k0_pay3 x n) (k0_pay4 x n) w := by
  unfold k0_pay23
  rw [p18, p19, p20, ld_whole _ w (by decide)]

theorem out4 : out0_4 (F := Ideal) x n w ids = k0_pay13 (k0_pay6 ids) (k0_pay9 (k0_pay1 x n) (k0_pay3 x n) (k0_pay4 x n) w) := by
  frame_out
  rw [p21, p23]

theorem out5 : out0_5 (F := Ideal) x n w ids = k0_pay14 (k0_pay8 (k0_pay1 x n) (k0_pay3 x n) (k0_pay4 x n) w) := by
  frame_out
  rw [p22]

theorem out6 : out0_6 (F := Ideal) x n w ids = k0_pay11 (k0_pay10 (k0_pay1 x n) (k0_pay3 x n) (k0_pay4 x n) w) := by
  frame_out
  rw [p18, p19, p20]

theorem out7 : out0_7 (F := Ideal) x n w ids = k0_pay15 (k0_pay8 (k0_pay1 x n) (k0_pay3 x n) (k0_pay4 x n) w) := by
  frame_out
  rw [p22]

theorem out8 : out0_8 (F := Ideal) x n w ids = k0_pay16 (k0_pay6 ids) (k0_pay8 (k0_pay1 x n) (k0_pay3 x n) (k0_pay4 x n) w)
    (k0_pay9 (k0_pay1 x n) (k0_pay3 x n) (k0_pay4 x n) w) := by
  frame_out
  rw [p21, p22, p23]

theorem out9 : out0_9 (F := Ideal) x n w ids = k0_pay5 (k0_pay1 x n) (k0_pay4 x n) := by
  frame_out
  rw [p18, p20]

theorem out10 : out0_10 (F := Ideal) x n w ids = k0_pay17 (k0_pay3 x n) := by
  frame_out
  rw [p19]

end Stores

/-! ### The indices of the results -/

/-- An index of a result of one entry per token is given by its group and its place. -/
theorem ix3_tok (y : S8x1x256.Idx) : y = ix3 (y 0 : Fin 8) (0 : Fin 1) (y 2 : Fin 256) := by
  blk_ext

theorem ix2_row (y : S1x384.Idx) : y = ix2 (0 : Fin 1) (y 1 : Fin 384) := by
  blk_ext

theorem ix2_rows (y : S2048x384.Idx) : y = ix2 (y 0 : Fin 2048) (y 1 : Fin 384) := by
  blk_ext

theorem ix2_codes (y : S2048x7168.Idx) : y = ix2 (y 0 : Fin 2048) (y 1 : Fin 7168) := by
  blk_ext

/-! ### The arrays after the run -/

variable (m : (ℓ : Loc nD τ sig) → Buf (Elt Ideal) ℓ) (c : Dev nD)

/-- The operands hold the arguments. -/
theorem holds (t : Fin cfg0.N) : Holds (b0 m c t) (b1 m c t) (b2 m c t) (b3 m c t) (aX m c) (aN m c) (aW m c) (aI m c) :=
  ⟨read0 m c t, read1 m c t, read2 m c t, fun r k h => read3 m c t r k h⟩

variable (hW : ∀ l j, ∃ r : ℝ, ws (aW m c) l j = r)

/-- The codes after the run. -/
theorem final9 : (dats m 0 c).arrAt 9 cfg0.N = codeR (aX m c) (aN m c) := by
  refine (dats m 0 c).arrAt_eq_of_covers 9 _ (by decide +kernel) fun t hf y => ?_
  blk_simp
  rw [after0_9, out9]
  have e : (win0_9.blk t).view.emb y = y := by
    blk_ext [idx t]
  exact (congrArg _ (ix2_codes y)).trans ((code_of (holds m c t) (y 0) (y 1)).trans (congrArg (codeR (aX m c) (aN m c)) e.symm))

/-- The scales after the run. -/
theorem final10 : (dats m 0 c).arrAt 10 cfg0.N = scaleR (aX m c) (aN m c) := by
  refine (dats m 0 c).arrAt_eq_of_covers 10 _ (by decide +kernel) fun t hf y => ?_
  blk_simp
  rw [after0_10, out10]
  have e : (win0_10.blk t).view.emb y = y := by
    blk_ext [idx t]
  exact (congrArg _ (ix3_tok y)).trans (((pay17_at _ (y 0) (y 2)).trans (scale_of (holds m c t) _)).trans
    (congrArg (scaleR (aX m c) (aN m c)) e.symm))

include hW

/-- The load-balancing losses after the run. -/
theorem final4 : (dats m 0 c).arrAt 4 cfg0.N = auxR (aX m c) (aN m c) (aW m c) (aI m c) := by
  refine (dats m 0 c).arrAt_eq_of_covers 4 _ (by decide +kernel) fun t hf y => ?_
  blk_simp
  rw [after0_4, out4]
  have e : (win0_4.blk t).view.emb y = y := by
    blk_ext [idx t]
  exact (congrArg _ (ix3_tok y)).trans ((aux_of (holds m c t) hW (y 0) (y 2)).trans
    (congrArg (auxR (aX m c) (aN m c) (aW m c) (aI m c)) e.symm))

/-- The normaliser losses after the run. -/
theorem final5 : (dats m 0 c).arrAt 5 cfg0.N = ztR (aX m c) (aN m c) (aW m c) := by
  refine (dats m 0 c).arrAt_eq_of_covers 5 _ (by decide +kernel) fun t hf y => ?_
  blk_simp
  rw [after0_5, out5]
  have e : (win0_5.blk t).view.emb y = y := by
    blk_ext [idx t]
  exact (congrArg _ (ix3_tok y)).trans ((zt_of (holds m c t) hW (y 0) (y 2)).trans
    (congrArg (ztR (aX m c) (aN m c) (aW m c)) e.symm))

/-- The mean probabilities after the run. -/
theorem final6 : (dats m 0 c).arrAt 6 cfg0.N = pR (aX m c) (aN m c) (aW m c) := by
  refine (dats m 0 c).arrAt_eq_of_covers 6 _ (by decide +kernel) fun t hf y => ?_
  blk_simp
  rw [after0_6, out6]
  have e : (win0_6.blk t).view.emb y = y := by
    blk_ext [idx t]
  exact (congrArg _ (ix2_row y)).trans ((p_of (holds m c t) hW (y 1)).trans
    (congrArg (pR (aX m c) (aN m c) (aW m c)) e.symm))

/-- The normalisers' logarithms after the run. -/
theorem final7 : (dats m 0 c).arrAt 7 cfg0.N = lseR (aX m c) (aN m c) (aW m c) := by
  refine (dats m 0 c).arrAt_eq_of_covers 7 _ (by decide +kernel) fun t hf y => ?_
  blk_simp
  rw [after0_7, out7]
  have e : (win0_7.blk t).view.emb y = y := by
    blk_ext [idx t]
  exact (congrArg _ (ix3_tok y)).trans (((pay15_at _ (y 0) (y 2)).trans (lse_of (holds m c t) hW _)).trans
    (congrArg (lseR (aX m c) (aN m c) (aW m c)) e.symm))

/-- The gradient after the run. -/
theorem final8 : (dats m 0 c).arrAt 8 cfg0.N = dlR (aX m c) (aN m c) (aW m c) (aI m c) := by
  refine (dats m 0 c).arrAt_eq_of_covers 8 _ (by decide +kernel) fun t hf y => ?_
  blk_simp
  rw [after0_8, out8]
  have e : (win0_8.blk t).view.emb y = y := by
    blk_ext [idx t]
  exact (congrArg _ (ix2_rows y)).trans ((dl_of (holds m c t) hW (y 0) (y 1)).trans
    (congrArg (dlR (aX m c) (aN m c) (aW m c) (aI m c)) e.symm))

end Cert.ReferenceIdeal.Value

end
-- ==== Proof.Pre.lean ====
/- The precondition read: every weight of the router is a real number. -/
module

public import proofs.«01_k».proof.Pre_weights_finite
public import proofs.«01_k».proof.Proof.Gen.Pre_weights_finite
public import proofs.«01_k».proof.Proof.Results

@[expose] public section

noncomputable section

namespace Cert.Spec

open Idealize.ShloMosaic

/-- An extended real whose absolute value is below the infinite is a real number. -/
theorem finite_of_abs_lt_top (a : EReal) (h : max a (-a) < ⊤) : ∃ r : ℝ, a = r := by
  have h1 : a ≠ ⊤ := ne_top_of_lt (lt_of_le_of_lt (le_max_left _ _) h)
  have h2 : a ≠ ⊥ := by
    rintro rfl
    exact absurd h (by simp)
  exact ⟨_, (EReal.coe_toReal h1 h2).symm⟩

/-- Under the precondition the router's weights are real numbers. -/
theorem weights_of_pre (X : Vec Ideal ⟨3, ![2, 1024, 7168]⟩ .bf16) (N : Vec Ideal ⟨1, ![7168]⟩ .f32)
    (W : Vec Ideal ⟨2, ![7168, 384]⟩ .bf16) (I : Vec Ideal ⟨3, ![2, 1024, 8]⟩ .i32)
    (h : Cert.Pre_weights_finite.fn (F := Ideal) X N W I = fun _ => 1#1) (l : Fin 7168) (j : Fin 384) :
    ∃ r : ℝ, ws W l j = r := by
  have h0 : BitVec.ofBool (decide (max (W (ix2 l j) : EReal) (-(W (ix2 l j) : EReal)) < Ideal.ofBits .f32 0x7F800000#32)) = 1#1 :=
    congrFun h (ix2 l j)
  refine finite_of_abs_lt_top _ ?_
  by_contra hn
  rw [ofBits_top, decide_eq_false (show ¬(max (W (ix2 l j) : EReal) (-(W (ix2 l j) : EReal)) < ⊤) from hn)] at h0
  exact absurd h0 (by decide)

end Cert.Spec

end
-- ==== Proof.Equal.lean ====
/- The two programs' runs side by side: the seven results are the same functions of the arguments. -/
module

public import proofs.«01_k».proof.Defs
public import proofs.«01_k».proof.Proof.KFinal
public import proofs.«01_k».proof.Proof.RFinal
public import proofs.«01_k».proof.Proof.Pre

@[expose] public section

set_option maxRecDepth 16384

noncomputable section

open Idealize.ShloMosaic Idealize.ShloMosaic.TcCoe Idealize.SL.Sem Cert.Spec

namespace Cert.KernelIdeal.Value

open Cert.KernelIdeal Cert.KernelIdeal.Gen

variable (m : (ℓ : Loc nD τ sig) → Buf (Elt Ideal) ℓ) (ρ : Dev nD → PrngReg)

/-- The kernel's run, its results named. -/
theorem run_results (hW : ∀ c l j, ∃ r : ℝ, ws (aW m c) l j = r) :
    θ_run defs (onTc (τ := τ) (main (F := Ideal))) ⟨m, fun _ => 0, ρ⟩ fun r => ∀ c : Dev nD,
      r.2.mem ((c.tc : Thread nD τ).loc main_v3_0) = auxR (aX m c) (aN m c) (aW m c) (aI m c)
      ∧ r.2.mem ((c.tc : Thread nD τ).loc main_v3_1) = ztR (aX m c) (aN m c) (aW m c)
      ∧ r.2.mem ((c.tc : Thread nD τ).loc main_v3_2) = pR (aX m c) (aN m c) (aW m c)
      ∧ r.2.mem ((c.tc : Thread nD τ).loc main_v3_3) = lseR (aX m c) (aN m c) (aW m c)
      ∧ r.2.mem ((c.tc : Thread nD τ).loc main_v3_4) = dlR (aX m c) (aN m c) (aW m c) (aI m c)
      ∧ r.2.mem ((c.tc : Thread nD τ).loc main_v3_5) = codeR (aX m c) (aN m c)
      ∧ r.2.mem ((c.tc : Thread nD τ).loc main_v3_6) = scaleR (aX m c) (aN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c),
      ((h.1 c).1 6).trans (final6 m c (hW c)), ((h.1 c).1 7).trans (final7 m c), ((h.1 c).1 8).trans (final8 m c),
      ((h.1 c).1 9).trans (final9 m c), ((h.1 c).1 10).trans (final10 m c), h.2 c⟩)
    (θ_run_and (run_main m ρ) (unchanged m ρ))

end Cert.KernelIdeal.Value

namespace Cert.ReferenceIdeal.Value

open Cert.ReferenceIdeal Cert.ReferenceIdeal.Gen

variable (m : (ℓ : Loc nD τ sig) → Buf (Elt Ideal) ℓ) (ρ : Dev nD → PrngReg)

/-- The reference's run, its results named. -/
theorem run_results (hW : ∀ c l j, ∃ r : ℝ, ws (aW m c) l j = r) :
    θ_run defs (onTc (τ := τ) (main (F := Ideal))) ⟨m, fun _ => 0, ρ⟩ fun r => ∀ c : Dev nD,
      r.2.mem ((c.tc : Thread nD τ).loc main_v3_0) = auxR (aX m c) (aN m c) (aW m c) (aI m c)
      ∧ r.2.mem ((c.tc : Thread nD τ).loc main_v3_1) = ztR (aX m c) (aN m c) (aW m c)
      ∧ r.2.mem ((c.tc : Thread nD τ).loc main_v3_2) = pR (aX m c) (aN m c) (aW m c)
      ∧ r.2.mem ((c.tc : Thread nD τ).loc main_v3_3) = lseR (aX m c) (aN m c) (aW m c)
      ∧ r.2.mem ((c.tc : Thread nD τ).loc main_v3_4) = dlR (aX m c) (aN m c) (aW m c) (aI m c)
      ∧ r.2.mem ((c.tc : Thread nD τ).loc main_v3_5) = codeR (aX m c) (aN m c)
      ∧ r.2.mem ((c.tc : Thread nD τ).loc main_v3_6) = scaleR (aX m c) (aN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final4 m c (hW c)), ((h.1 c).1 5).trans (final5 m c (hW c)),
      ((h.1 c).1 6).trans (final6 m c (hW c)), ((h.1 c).1 7).trans (final7 m c (hW c)), ((h.1 c).1 8).trans (final8 m c (hW c)),
      ((h.1 c).1 9).trans (final9 m c), ((h.1 c).1 10).trans (final10 m c), h.2 c⟩)
    (θ_run_and (run_main m ρ) (unchanged m ρ))

end Cert.ReferenceIdeal.Value

namespace Cert.Proof

/-- Over the extended reals, from equal arguments with finite router weights, the two programs end with equal results. -/
theorem algebraic : Cert.algebraic_KernelIdeal_ReferenceIdeal_pre_weights_finite := by
  intro m g m' g' hp ha
  have hW : ∀ c l j, ∃ r : ℝ, ws (KernelIdeal.Value.aW m c) l j = r := fun c l j => weights_of_pre _ _ _ _ (hp c) l j
  have e0 : ∀ c : Dev Cert.KernelIdeal.nD, ReferenceIdeal.Value.aX m' c = KernelIdeal.Value.aX m c := fun c => (ha c).1
  have e1 : ∀ c : Dev Cert.KernelIdeal.nD, ReferenceIdeal.Value.aN m' c = KernelIdeal.Value.aN m c := fun c => (ha c).2.1
  have e2 : ∀ c : Dev Cert.KernelIdeal.nD, ReferenceIdeal.Value.aW m' c = KernelIdeal.Value.aW m c := fun c => (ha c).2.2.1
  have e3 : ∀ c : Dev Cert.KernelIdeal.nD, ReferenceIdeal.Value.aI m' c = KernelIdeal.Value.aI m c := fun c => (ha c).2.2.2
  have hW' : ∀ (c : Dev Cert.KernelIdeal.nD) l j, ∃ r : ℝ, ws (ReferenceIdeal.Value.aW m' c) l j = r := by
    intro c l j
    rw [e2 c]
    exact hW c l j
  refine ⟨_, _, _, _, _, _, _, KernelIdeal.Value.run_results m g hW,
    (θ_run _ _ _).mono (fun r h c => ?_) (ReferenceIdeal.Value.run_results m' g' hW')⟩
  have hc := h c
  rw [e0 c, e1 c, e2 c, e3 c] at hc
  exact hc

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_weights_finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The frames, the preservation and the equality of the seven results. -/
theorem claim : Cert.Claim := ⟨Cert.Kernel.Gen.facts, Cert.KernelIdeal.Gen.facts, Cert.ReferenceIdeal.Gen.facts, Cert.Pre_weights_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
